-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_float_image_sobel_weight [hPre_float_image_sobel_weight : Cert.Pre_float_image_sobel_weight.Facts] (m : (ℓ : Loc Cert.KernelIdeal.nD Cert.KernelIdeal.τ Cert.KernelIdeal.sig) → Buf (Elt Ideal) ℓ) : Prop :=
  ∀ c : Dev Cert.KernelIdeal.nD,
    (Cert.Pre_float_image_sobel_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_float_image_sobel_weight [hPre_float_image_sobel_weight : Cert.Pre_float_image_sobel_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_float_image_sobel_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_float_image_sobel_weight [hKernelIdeal : Cert.KernelIdeal.Facts] [hPre_float_image_sobel_weight : Cert.Pre_float_image_sobel_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_float_image_sobel_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_float_image_sobel_weight [hReferenceIdeal : Cert.ReferenceIdeal.Facts] [hPre_float_image_sobel_weight : Cert.Pre_float_image_sobel_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_float_image_sobel_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "pi_9" .f32 0x3EB2B8C2#32 ((Real.pi * 9⁻¹ : ℝ) : EReal)

def algebraic_KernelIdeal_ReferenceIdeal_pre_float_image_sobel_weight [hKernelIdeal : Cert.KernelIdeal.Facts] [hReferenceIdeal : Cert.ReferenceIdeal.Facts] [hPre_float_image_sobel_weight : Cert.Pre_float_image_sobel_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_float_image_sobel_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_float_image_sobel_weight : Cert.Pre_float_image_sobel_weight.Facts),
    quiescent_Kernel (hKernel := hKernel)
    ∧ quiescent_KernelIdeal (hKernelIdeal := hKernelIdeal)
    ∧ quiescent_KernelIdeal_pre_float_image_sobel_weight (hKernelIdeal := hKernelIdeal) (hPre_float_image_sobel_weight := hPre_float_image_sobel_weight)
    ∧ quiescent_ReferenceIdeal (hReferenceIdeal := hReferenceIdeal)
    ∧ quiescent_ReferenceIdeal_pre_float_image_sobel_weight (hReferenceIdeal := hReferenceIdeal) (hPre_float_image_sobel_weight := hPre_float_image_sobel_weight)
    ∧ preserves_Kernel_KernelIdeal
    ∧ algebraic_KernelIdeal_ReferenceIdeal_pre_float_image_sobel_weight (hKernelIdeal := hKernelIdeal) (hReferenceIdeal := hReferenceIdeal) (hPre_float_image_sobel_weight := hPre_float_image_sobel_weight)
-- ==== Pre_float_image_sobel_weight.lean ====
abbrev S16x1x512x512 : Shape := ⟨4, ![16, 1, 512, 512]⟩
abbrev S2x1x3x3 : Shape := ⟨4, ![2, 1, 3, 3]⟩
abbrev S3x3 : Shape := ⟨2, ![3, 3]⟩
abbrev S1x3x3 : Shape := ⟨3, ![1, 3, 3]⟩
abbrev S2x3x3 : Shape := ⟨3, ![2, 3, 3]⟩
abbrev S_ : Shape := ⟨0, ![]⟩

class Facts : Prop where
  transposes_S3x3_S3x3_1_0 : S3x3.Transposes [1, 0] S3x3
  bcast_S3x3_S1x3x3_1_2 : S3x3.BroadcastsInDim S1x3x3 (![1, 2] : Fin 2 → Fin S1x3x3.rank)
  concatenates_S1x3x3_S1x3x3_S2x3x3_d0 : Shape.Concatenates [S1x3x3, S1x3x3] S2x3x3 0
  bcast_S2x3x3_S2x1x3x3_0_2_3 : S2x3x3.BroadcastsInDim S2x1x3x3 (![0, 2, 3] : Fin 3 → Fin S2x1x3x3.rank)
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  reducesTo_S2x1x3x3_S_d0_1_2_3 : S2x1x3x3.ReducesTo [0, 1, 2, 3] S_

variable [Facts]

noncomputable abbrev lit0 : Fin 9 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32
  | _ => 0#32

def fn_part1 {F : FTy → Type} [FloatOps F] (main_v16 : IVec S_ 1) (main_v17 : IVec S2x1x3x3 1) : IVec S_ 1 :=
  let main_c_4 : IVec S_ 1 := constantI S_ 1 1#1
  let main_v18 : IVec S_ 1 := (fun x v => Host.reduce IntOp.andi x v reducesTo_S2x1x3x3_S_d0_1_2_3 h_S_) main_v17 main_c_4
  let main_v19 : IVec S_ 1 := andi main_v16 main_v18
  main_v19

def fn {F : FTy → Type} [FloatOps F] (main_arg0 : FVec F S16x1x512x512 .f32) (main_arg1 : FVec F S2x1x3x3 .f32) : IVec S_ 1 :=
  let main_cst : FVec F S3x3 .f32 := fun i => FloatOps.ofBits .f32 (lit0 (S3x3.rowMajor i))
  let main_v0 : FVec F S3x3 .f32 := (transpose S3x3 [1, 0] · transposes_S3x3_S3x3_1_0) main_cst
  let main_v1 : FVec F S1x3x3 .f32 := broadcastInDim S1x3x3 ![1, 2] bcast_S3x3_S1x3x3_1_2 main_cst
  let main_v2 : FVec F S1x3x3 .f32 := broadcastInDim S1x3x3 ![1, 2] bcast_S3x3_S1x3x3_1_2 main_v0
  let main_v3 : FVec F S2x3x3 .f32 := (fun a b => concatenate S2x3x3 0 [⟨S1x3x3, a⟩, ⟨S1x3x3, b⟩] concatenates_S1x3x3_S1x3x3_S2x3x3_d0) main_v1 main_v2
  let main_v4 : FVec F S2x1x3x3 .f32 := broadcastInDim S2x1x3x3 ![0, 2, 3] bcast_S2x3x3_S2x1x3x3_0_2_3 main_v3
  let main_cst_0 : FVec F S_ .f32 := constant S_ .f32 0x71800000#32
  let main_v5 : FVec F S16x1x512x512 .f32 := broadcastInDim S16x1x512x512 ![] bcast_S_S16x1x512x512 main_cst_0
  let main_v6 : FVec F S16x1x512x512 .f32 := mulf main_arg0 main_v5
  let main_cst_1 : FVec F S_ .f32 := constant S_ .f32 0x58000000#32
  let main_v7 : FVec F S16x1x512x512 .f32 := broadcastInDim S16x1x512x512 ![] bcast_S_S16x1x512x512 main_cst_1
  let main_v8 : FVec F S16x1x512x512 .f32 := mulf main_v6 main_v7
  let main_v9 : FVec F S16x1x512x512 .f32 := Host.absf main_arg0
  let main_cst_2 : FVec F S_ .f32 := constant S_ .f32 0x7F7FFFFF#32
  let main_v10 : FVec F S16x1x512x512 .f32 := broadcastInDim S16x1x512x512 ![] bcast_S_S16x1x512x512 main_cst_2
  let main_v11 : IVec S16x1x512x512 1 := cmpf .ole main_v9 main_v10
  let main_c : IVec S_ 1 := constantI S_ 1 1#1
  let main_v12 : IVec S_ 1 := (fun x v => Host.reduce IntOp.andi x v reducesTo_S16x1x512x512_S_d0_1_2_3 h_S_) main_v11 main_c
  let main_v13 : FVec F S16x1x512x512 .f32 := Host.floor main_v8
  let main_v14 : IVec S16x1x512x512 1 := cmpf .oeq main_v13 main_v8
  let main_c_3 : IVec S_ 1 := constantI S_ 1 1#1
  let main_v15 : IVec S_ 1 := (fun x v => Host.reduce IntOp.andi x v reducesTo_S16x1x512x512_S_d0_1_2_3 h_S_) main_v14 main_c_3
  let main_v16 : IVec S_ 1 := andi main_v12 main_v15
  let main_v17 : IVec S2x1x3x3 1 := cmpf .oeq main_arg1 main_v4
  fn_part1 (F := F) main_v16 main_v17
-- ==== Kernel.lean ====
abbrev S16x1x512x512 : Shape := ⟨4, ![16, 1, 512, 512]⟩
abbrev S2x1x3x3 : Shape := ⟨4, ![2, 1, 3, 3]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1024x512 : Shape := ⟨2, ![1024, 512]⟩
abbrev S64 : Shape := ⟨1, ![64]⟩
abbrev S64x1 : Shape := ⟨2, ![64, 1]⟩
abbrev S64x512 : Shape := ⟨2, ![64, 512]⟩
abbrev S1x64 : Shape := ⟨2, ![1, 64]⟩
abbrev S512x64 : Shape := ⟨2, ![512, 64]⟩
abbrev S16x9x64x64 : Shape := ⟨4, ![16, 9, 64, 64]⟩
abbrev S1x1x512x512 : Shape := ⟨4, ![1, 1, 512, 512]⟩
abbrev S1x9x64x64 : Shape := ⟨4, ![1, 9, 64, 64]⟩
abbrev S512x511 : Shape := ⟨2, ![512, 511]⟩
abbrev S64x64 : Shape := ⟨2, ![64, 64]⟩
abbrev S1x1x64x64 : Shape := ⟨4, ![1, 1, 64, 64]⟩

abbrev nBuf : Space → Nat
  | .hbm => 102
  | .vmem => 7
  | .smem => 0
  | _ => 0

abbrev bufTy : (tb : Table) → Fin (tcTables nBuf tb) → BufTy
  | .hbm, ⟨0, _⟩ => ⟨S16x1x512x512, .f32⟩
  | .hbm, ⟨1, _⟩ => ⟨S2x1x3x3, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S_, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .i32⟩
  | .hbm, ⟨35, _⟩ => ⟨S512x512, .i32⟩
  | .hbm, ⟨36, _⟩ => ⟨S512x512, .i1⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S1024x512, .f32⟩
  | .hbm, ⟨44, _⟩ => ⟨S64, .i32⟩
  | .hbm, ⟨45, _⟩ => ⟨S1x512, .i32⟩
  | .hbm, ⟨46, _⟩ => ⟨S_, .i32⟩
  | .hbm, ⟨47, _⟩ => ⟨S_, .i32⟩
  | .hbm, ⟨48, _⟩ => ⟨S1x512, .i32⟩
  | .hbm, ⟨49, _⟩ => ⟨S1x512, .i32⟩
  | .hbm, ⟨50, _⟩ => ⟨S1x512, .i32⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S1x512, .i32⟩
  | .hbm, ⟨55, _⟩ => ⟨S1x512, .i32⟩
  | .hbm, ⟨56, _⟩ => ⟨S_, .i32⟩
  | .hbm, ⟨57, _⟩ => ⟨S1x512, .i32⟩
  | .hbm, ⟨58, _⟩ => ⟨S1x512, .i1⟩
  | .hbm, ⟨59, _⟩ => ⟨S1x512, .i1⟩
  | .hbm, ⟨60, _⟩ => ⟨S_, .i32⟩
  | .hbm, ⟨61, _⟩ => ⟨S1x512, .i32⟩
  | .hbm, ⟨62, _⟩ => ⟨S1x512, .i32⟩
  | .hbm, ⟨63, _⟩ => ⟨S1x512, .i32⟩
  | .hbm, ⟨64, _⟩ => ⟨S64x1, .i32⟩
  | .hbm, ⟨65, _⟩ => ⟨S64x512, .i32⟩
  | .hbm, ⟨66, _⟩ => ⟨S64x512, .i32⟩
  | .hbm, ⟨67, _⟩ => ⟨S64x512, .i1⟩
  | .hbm, ⟨68, _⟩ => ⟨S_, .f32⟩
  | .hbm, ⟨69, _⟩ => ⟨S_, .f32⟩
  | .hbm, ⟨70, _⟩ => ⟨S64x512, .f32⟩
  | .hbm, ⟨71, _⟩ => ⟨S64x512, .f32⟩
  | .hbm, ⟨72, _⟩ => ⟨S64x512, .f32⟩
  | .hbm, ⟨73, _⟩ => ⟨S512x1, .i32⟩
  | .hbm, ⟨74, _⟩ => ⟨S_, .i32⟩
  | .hbm, ⟨75, _⟩ => ⟨S_, .i32⟩
  | .hbm, ⟨76, _⟩ => ⟨S512x1, .i32⟩
  | .hbm, ⟨77, _⟩ => ⟨S512x1, .i32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S512x1, .i32⟩
  | .hbm, ⟨83, _⟩ => ⟨S512x1, .i32⟩
  | .hbm, ⟨84, _⟩ => ⟨S_, .i32⟩
  | .hbm, ⟨85, _⟩ => ⟨S512x1, .i32⟩
  | .hbm, ⟨86, _⟩ => ⟨S512x1, .i1⟩
  | .hbm, ⟨87, _⟩ => ⟨S512x1, .i1⟩
  | .hbm, ⟨88, _⟩ => ⟨S_, .i32⟩
  | .hbm, ⟨89, _⟩ => ⟨S512x1, .i32⟩
  | .hbm, ⟨90, _⟩ => ⟨S512x1, .i32⟩
  | .hbm, ⟨91, _⟩ => ⟨S512x1, .i32⟩
  | .hbm, ⟨92, _⟩ => ⟨S1x64, .i32⟩
  | .hbm, ⟨93, _⟩ => ⟨S512x64, .i32⟩
  | .hbm, ⟨94, _⟩ => ⟨S512x64, .i32⟩
  | .hbm, ⟨95, _⟩ => ⟨S512x64, .i1⟩
  | .hbm, ⟨96, _⟩ => ⟨S_, .f32⟩
  | .hbm, ⟨97, _⟩ => ⟨S_, .f32⟩
  | .hbm, ⟨98, _⟩ => ⟨S512x64, .f32⟩
  | .hbm, ⟨99, _⟩ => ⟨S512x64, .f32⟩
  | .hbm, ⟨100, _⟩ => ⟨S512x64, .f32⟩
  | .hbm, ⟨101, _⟩ => ⟨S16x9x64x64, .f32⟩
  | .local _ .vmem, ⟨0, _⟩ => ⟨S1x1x512x512, .f32⟩
  | .local _ .vmem, ⟨1, _⟩ => ⟨S1x1x512x512, .f32⟩
  | .local _ .vmem, ⟨2, _⟩ => ⟨S1024x512, .f32⟩
  | .local _ .vmem, ⟨3, _⟩ => ⟨S64x512, .f32⟩
  | .local _ .vmem, ⟨4, _⟩ => ⟨S512x64, .f32⟩
  | .local _ .vmem, ⟨5, _⟩ => ⟨S1x9x64x64, .f32⟩
  | .local _ .vmem, ⟨6, _⟩ => ⟨S1x9x64x64, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_cst_6 : Ref sig .tc := ⟨.hbm, 30, rfl⟩
abbrev main_call2_v0 : Ref sig .tc := ⟨.hbm, 31, rfl⟩
abbrev main_call2_v1 : Ref sig .tc := ⟨.hbm, 32, rfl⟩
abbrev main_v16 : Ref sig .tc := ⟨.hbm, 33, rfl⟩
abbrev main_c_7 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_cst_9 : Ref sig .tc := ⟨.hbm, 38, rfl⟩
abbrev main_call3_v0 : Ref sig .tc := ⟨.hbm, 39, rfl⟩
abbrev main_call3_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_10 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_c : Ref sig .tc := ⟨.hbm, 56, rfl⟩
abbrev main_call4_v9 : Ref sig .tc := ⟨.hbm, 57, rfl⟩
abbrev main_call4_v10 : Ref sig .tc := ⟨.hbm, 58, rfl⟩
abbrev main_call4_v11 : Ref sig .tc := ⟨.hbm, 59, rfl⟩
abbrev main_call4_c_0 : Ref sig .tc := ⟨.hbm, 60, rfl⟩
abbrev main_call4_v12 : Ref sig .tc := ⟨.hbm, 61, rfl⟩
abbrev main_call4_v13 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_11 : Ref sig .tc := ⟨.hbm, 68, rfl⟩
abbrev main_cst_12 : Ref sig .tc := ⟨.hbm, 69, rfl⟩
abbrev main_call5_v0 : Ref sig .tc := ⟨.hbm, 70, rfl⟩
abbrev main_call5_v1 : Ref sig .tc := ⟨.hbm, 71, rfl⟩
abbrev main_v29 : Ref sig .tc := ⟨.hbm, 72, rfl⟩
abbrev main_v30 : Ref sig .tc := ⟨.hbm, 73, rfl⟩
abbrev main_c_13 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_v5 : Ref sig .tc := ⟨.hbm, 80, rfl⟩
abbrev main_call6_v6 : Ref sig .tc := ⟨.hbm, 81, rfl⟩
abbrev main_call6_v7 : Ref sig .tc := ⟨.hbm, 82, rfl⟩
abbrev main_call6_v8 : Ref sig .tc := ⟨.hbm, 83, rfl⟩
abbrev main_call6_c : Ref sig .tc := ⟨.hbm, 84, rfl⟩
abbrev main_call6_v9 : Ref sig .tc := ⟨.hbm, 85, rfl⟩
abbrev main_call6_v10 : Ref sig .tc := ⟨.hbm, 86, rfl⟩
abbrev main_call6_v11 : Ref sig .tc := ⟨.hbm, 87, rfl⟩
abbrev main_call6_c_0 : Ref sig .tc := ⟨.hbm, 88, rfl⟩
abbrev main_call6_v12 : Ref sig .tc := ⟨.hbm, 89, rfl⟩
abbrev main_call6_v13 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_14 : Ref sig .tc := ⟨.hbm, 96, rfl⟩
abbrev main_cst_15 : Ref sig .tc := ⟨.hbm, 97, rfl⟩
abbrev main_call7_v0 : Ref sig .tc := ⟨.hbm, 98, rfl⟩
abbrev main_call7_v1 : Ref sig .tc := ⟨.hbm, 99, rfl⟩
abbrev main_v36 : Ref sig .tc := ⟨.hbm, 100, rfl⟩
abbrev main_v37 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "pi_9" => some ((Real.pi * 9⁻¹ : ℝ) : EReal)
  | _ => none
-- ==== ReferenceIdeal.lean ====
abbrev S16x1x512x512 : Shape := ⟨4, ![16, 1, 512, 512]⟩
abbrev S2x1x3x3 : Shape := ⟨4, ![2, 1, 3, 3]⟩
abbrev S_ : Shape := ⟨0, ![]⟩
abbrev S16x1x514x514 : Shape := ⟨4, ![16, 1, 514, 514]⟩
abbrev S16x2x512x512 : Shape := ⟨4, ![16, 2, 512, 512]⟩
abbrev S2x1x1x1 : Shape := ⟨4, ![2, 1, 1, 1]⟩
abbrev S2 : Shape := ⟨1, ![2]⟩
abbrev S1x2x1x1 : Shape := ⟨4, ![1, 2, 1, 1]⟩
abbrev S16x512x512 : Shape := ⟨3, ![16, 512, 512]⟩
abbrev S9 : Shape := ⟨1, ![9]⟩
abbrev S1x9x1x1 : Shape := ⟨4, ![1, 9, 1, 1]⟩
abbrev S16x9x512x512 : Shape := ⟨4, ![16, 9, 512, 512]⟩
abbrev S16x9x64x8x64x8 : Shape := ⟨6, ![16, 9, 64, 8, 64, 8]⟩
abbrev S16x9x64x64 : Shape := ⟨4, ![16, 9, 64, 64]⟩

abbrev nBuf : Space → Nat
  | .hbm => 171
  | .vmem => 0
  | .smem => 0
  | _ => 0

abbrev hbmTy0_0 (i : Nat) : BufTy := match i % 128 with
  | 0 => ⟨S16x1x512x512, .f32⟩
  | 1 => ⟨S2x1x3x3, .f32⟩
  | 2 => ⟨S_, .i32⟩
  | 3 => ⟨S_, .f32⟩
  | 4 => ⟨S16x1x514x514, .f32⟩
  | 5 => ⟨S_, .f32⟩
  | 6 => ⟨S16x2x512x512, .f32⟩
  | 7 => ⟨S2x1x1x1, .f32⟩
  | 8 => ⟨S2, .f32⟩
  | 9 => ⟨S1x2x1x1, .f32⟩
  | 10 => ⟨S16x1x512x512, .f32⟩
  | 11 => ⟨S16x2x512x512, .f32⟩
  | 12 => ⟨S16x2x512x512, .f32⟩
  | 13 => ⟨S16x2x512x512, .f32⟩
  | 14 => ⟨S16x2x512x512, .f32⟩
  | 15 => ⟨S2x1x1x1, .f32⟩
  | 16 => ⟨S2, .f32⟩
  | 17 => ⟨S1x2x1x1, .f32⟩
  | 18 => ⟨S16x1x512x512, .f32⟩
  | 19 => ⟨S16x2x512x512, .f32⟩
  | 20 => ⟨S16x2x512x512, .f32⟩
  | 21 => ⟨S16x2x512x512, .f32⟩
  | 22 => ⟨S16x2x512x512, .f32⟩
  | 23 => ⟨S2x1x1x1, .f32⟩
  | 24 => ⟨S2, .f32⟩
  | 25 => ⟨S1x2x1x1, .f32⟩
  | 26 => ⟨S16x1x512x512, .f32⟩
  | 27 => ⟨S16x2x512x512, .f32⟩
  | 28 => ⟨S16x2x512x512, .f32⟩
  | 29 => ⟨S16x2x512x512, .f32⟩
  | 30 => ⟨S16x2x512x512, .f32⟩
  | 31 => ⟨S2x1x1x1, .f32⟩
  | 32 => ⟨S2, .f32⟩
  | 33 => ⟨S1x2x1x1, .f32⟩
  | 34 => ⟨S16x1x512x512, .f32⟩
  | 35 => ⟨S16x2x512x512, .f32⟩
  | 36 => ⟨S16x2x512x512, .f32⟩
  | 37 => ⟨S16x2x512x512, .f32⟩
  | 38 => ⟨S16x2x512x512, .f32⟩
  | 39 => ⟨S2x1x1x1, .f32⟩
  | 40 => ⟨S2, .f32⟩
  | 41 => ⟨S1x2x1x1, .f32⟩
  | 42 => ⟨S16x1x512x512, .f32⟩
  | 43 => ⟨S16x2x512x512, .f32⟩
  | 44 => ⟨S16x2x512x512, .f32⟩
  | 45 => ⟨S16x2x512x512, .f32⟩
  | 46 => ⟨S16x2x512x512, .f32⟩
  | 47 => ⟨S2x1x1x1, .f32⟩
  | 48 => ⟨S2, .f32⟩
  | 49 => ⟨S1x2x1x1, .f32⟩
  | 50 => ⟨S16x1x512x512, .f32⟩
  | 51 => ⟨S16x2x512x512, .f32⟩
  | 52 => ⟨S16x2x512x512, .f32⟩
  | 53 => ⟨S16x2x512x512, .f32⟩
  | 54 => ⟨S16x2x512x512, .f32⟩
  | 55 => ⟨S2x1x1x1, .f32⟩
  | 56 => ⟨S2, .f32⟩
  | 57 => ⟨S1x2x1x1, .f32⟩
  | 58 => ⟨S16x1x512x512, .f32⟩
  | 59 => ⟨S16x2x512x512, .f32⟩
  | 60 => ⟨S16x2x512x512, .f32⟩
  | 61 => ⟨S16x2x512x512, .f32⟩
  | 62 => ⟨S16x2x512x512, .f32⟩
  | 63 => ⟨S2x1x1x1, .f32⟩
  | 64 => ⟨S2, .f32⟩
  | 65 => ⟨S1x2x1x1, .f32⟩
  | 66 => ⟨S16x1x512x512, .f32⟩
  | 67 => ⟨S16x2x512x512, .f32⟩
  | 68 => ⟨S16x2x512x512, .f32⟩
  | 69 => ⟨S16x2x512x512, .f32⟩
  | 70 => ⟨S16x2x512x512, .f32⟩
  | 71 => ⟨S2x1x1x1, .f32⟩
  | 72 => ⟨S2, .f32⟩
  | 73 => ⟨S1x2x1x1, .f32⟩
  | 74 => ⟨S16x1x512x512, .f32⟩
  | 75 => ⟨S16x2x512x512, .f32⟩
  | 76 => ⟨S16x2x512x512, .f32⟩
  | 77 => ⟨S16x2x512x512, .f32⟩
  | 78 => ⟨S16x2x512x512, .f32⟩
  | 79 => ⟨S16x2x512x512, .f32⟩
  | 80 => ⟨S_, .f32⟩
  | 81 => ⟨S16x512x512, .f32⟩
  | 82 => ⟨S_, .f32⟩
  | 83 => ⟨S16x512x512, .f32⟩
  | 84 => ⟨S16x512x512, .f32⟩
  | 85 => ⟨S16x512x512, .f32⟩
  | 86 => ⟨S16x1x512x512, .f32⟩
  | 87 => ⟨S16x512x512, .f32⟩
  | 88 => ⟨S16x1x512x512, .f32⟩
  | 89 => ⟨S16x512x512, .f32⟩
  | 90 => ⟨S16x512x512, .f32⟩
  | 91 => ⟨S_, .f32⟩
  | 92 => ⟨S_, .f32⟩
  | 93 => ⟨S16x512x512, .f32⟩
  | 94 => ⟨S16x512x512, .f32⟩
  | 95 => ⟨S_, .f32⟩
  | 96 => ⟨S16x512x512, .f32⟩
  | 97 => ⟨S16x512x512, .f32⟩
  | 98 => ⟨S16x512x512, .f32⟩
  | 99 => ⟨S16x512x512, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S16x512x512, .i32⟩
  | 107 => ⟨S16x512x512, .i32⟩
  | 108 => ⟨S_, .i32⟩
  | 109 => ⟨S16x512x512, .i32⟩
  | 110 => ⟨S16x512x512, .i1⟩
  | 111 => ⟨S_, .i32⟩
  | 112 => ⟨S16x512x512, .i32⟩
  | 113 => ⟨S16x512x512, .i1⟩
  | 114 => ⟨S_, .i32⟩
  | 115 => ⟨S_, .i1⟩
  | 116 => ⟨S16x512x512, .i1⟩
  | 117 => ⟨S16x512x512, .i1⟩
  | 118 => ⟨S16x512x512, .i1⟩
  | 119 => ⟨S16x512x512, .i32⟩
  | 120 => ⟨S16x512x512, .i32⟩
  | 121 => ⟨S16x512x512, .i32⟩
  | 122 => ⟨S16x512x512, .f32⟩
  | 123 => ⟨S16x512x512, .i32⟩
  | 124 => ⟨S_, .i32⟩
  | 125 => ⟨S_, .i32⟩
  | 126 => ⟨S_, .i32⟩
  | 127 => ⟨S_, .i1⟩
  | _ => ⟨S16x1x512x512, .f32⟩

abbrev hbmTy0_1 (i : Nat) : BufTy := match i % 128 with
  | 0 => ⟨S_, .i32⟩
  | 1 => ⟨S_, .i32⟩
  | 2 => ⟨S16x512x512, .i32⟩
  | 3 => ⟨S16x512x512, .i32⟩
  | 4 => ⟨S_, .i32⟩
  | 5 => ⟨S16x512x512, .i32⟩
  | 6 => ⟨S16x512x512, .i1⟩
  | 7 => ⟨S_, .i32⟩
  | 8 => ⟨S16x512x512, .i32⟩
  | 9 => ⟨S16x512x512, .i1⟩
  | 10 => ⟨S_, .i32⟩
  | 11 => ⟨S_, .i1⟩
  | 12 => ⟨S16x512x512, .i1⟩
  | 13 => ⟨S16x512x512, .i1⟩
  | 14 => ⟨S16x512x512, .i1⟩
  | 15 => ⟨S16x512x512, .i32⟩
  | 16 => ⟨S16x512x512, .i32⟩
  | 17 => ⟨S16x512x512, .i32⟩
  | 18 => ⟨S9, .i32⟩
  | 19 => ⟨S1x9x1x1, .i32⟩
  | 20 => ⟨S16x1x512x512, .i32⟩
  | 21 => ⟨S16x9x512x512, .i32⟩
  | 22 => ⟨S16x9x512x512, .i32⟩
  | 23 => ⟨S16x9x512x512, .i1⟩
  | 24 => ⟨S16x9x512x512, .f32⟩
  | 25 => ⟨S16x1x512x512, .i32⟩
  | 26 => ⟨S16x9x512x512, .i32⟩
  | 27 => ⟨S16x9x512x512, .i32⟩
  | 28 => ⟨S16x9x512x512, .i1⟩
  | 29 => ⟨S16x9x512x512, .f32⟩
  | 30 => ⟨S16x1x512x512, .f32⟩
  | 31 => ⟨S16x9x512x512, .f32⟩
  | 32 => ⟨S16x9x512x512, .f32⟩
  | 33 => ⟨S16x1x512x512, .f32⟩
  | 34 => ⟨S16x9x512x512, .f32⟩
  | 35 => ⟨S16x9x512x512, .f32⟩
  | 36 => ⟨S16x9x512x512, .f32⟩
  | 37 => ⟨S16x9x64x8x64x8, .f32⟩
  | 38 => ⟨S_, .f32⟩
  | 39 => ⟨S16x9x64x64, .f32⟩
  | 40 => ⟨S_, .f32⟩
  | 41 => ⟨S16x9x64x64, .f32⟩
  | 42 => ⟨S16x9x64x64, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_cst_0 : Ref sig .tc := ⟨.hbm, 80, rfl⟩
abbrev main_v75 : Ref sig .tc := ⟨.hbm, 81, rfl⟩
abbrev main_cst_1 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_cst_2 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_cst_3 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_c_4 : Ref sig .tc := ⟨.hbm, 100, rfl⟩
abbrev main_call1_v0 : Ref sig .tc := ⟨.hbm, 101, rfl⟩
abbrev main_call1_c : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_c_1 : Ref sig .tc := ⟨.hbm, 108, rfl⟩
abbrev main_call1_v5 : Ref sig .tc := ⟨.hbm, 109, rfl⟩
abbrev main_call1_v6 : Ref sig .tc := ⟨.hbm, 110, rfl⟩
abbrev main_call1_c_2 : Ref sig .tc := ⟨.hbm, 111, rfl⟩
abbrev main_call1_v7 : Ref sig .tc := ⟨.hbm, 112, rfl⟩
abbrev main_call1_v8 : Ref sig .tc := ⟨.hbm, 113, rfl⟩
abbrev main_call1_c_3 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_5 : Ref sig .tc := ⟨.hbm, 124, rfl⟩
abbrev main_call2_v0 : Ref sig .tc := ⟨.hbm, 125, rfl⟩
abbrev main_call2_c : Ref sig .tc := ⟨.hbm, 126, rfl⟩
abbrev main_call2_v1 : Ref sig .tc := ⟨.hbm, 127, rfl⟩
abbrev main_call2_c_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_c_1 : Ref sig .tc := ⟨.hbm, 132, rfl⟩
abbrev main_call2_v5 : Ref sig .tc := ⟨.hbm, 133, rfl⟩
abbrev main_call2_v6 : Ref sig .tc := ⟨.hbm, 134, rfl⟩
abbrev main_call2_c_2 : Ref sig .tc := ⟨.hbm, 135, rfl⟩
abbrev main_call2_v7 : Ref sig .tc := ⟨.hbm, 136, rfl⟩
abbrev main_call2_v8 : Ref sig .tc := ⟨.hbm, 137, rfl⟩
abbrev main_call2_c_3 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_v13 : Ref sig .tc := ⟨.hbm, 143, rfl⟩
abbrev main_call2_v14 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_6 : Ref sig .tc := ⟨.hbm, 166, rfl⟩
abbrev main_v115 : Ref sig .tc := ⟨.hbm, 167, rfl⟩
abbrev main_cst_7 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]
-- ==== Proof.Angle.lean ====
/-
  The angle of a gradient and the nine sign tests, over the reals alone.

  A gradient has two components, `y` and `x`; its angle is `atan2 y x`. The reference scales the angle to a number
  `t` in `(-9, 9]` and takes the floor and the ceiling of `t`, both modulo 9. The kernel never computes the angle: it
  turns the gradient by `b·π/9` and asks whether `y` of the turned gradient, `turn y x b`, is at least 0. This module
  shows that both name the same two bins, when no bin boundary other than `y = 0` is met exactly.
-/
module

public import Idealize.ShloMosaic.PureOps.Ideal
public import Mathlib.Analysis.SpecialFunctions.Trigonometric.Arctan

@[expose] public section

noncomputable section

namespace Cert.Hog

open Real

/-- One bin's width, a ninth of a half turn. -/
def step : ℝ := π * 9⁻¹

theorem step_pos : 0 < step := by unfold step; positivity

theorem nine_step : 9 * step = π := by unfold step; ring

/-- The angle of the point `(x, y)`, by quadrant. -/
def angle (y x : ℝ) : ℝ :=
  if 0 < x then arctan (y / x)
  else if x < 0 then (if 0 ≤ y then arctan (y / x) + π else arctan (y / x) - π)
  else if 0 < y then π / 2 else if y < 0 then -(π / 2) else 0

/-- The angle in bins, a number in `(-9, 9]`. -/
def bins (y x : ℝ) : ℝ := angle y x / π * 9

/-- The first component of the gradient turned back by `b` bins. -/
def turn (y x : ℝ) (b : ℕ) : ℝ := cos (b * step) * y - sin (b * step) * x

/-- Polar form: the angle is one of the gradient's, in `(-π, π]`. -/
theorem angle_polar (y x : ℝ) : ∃ r : ℝ, 0 ≤ r ∧ x = r * cos (angle y x) ∧ y = r * sin (angle y x) ∧
    -π < angle y x ∧ angle y x ≤ π ∧ (r = 0 → angle y x = 0) := by
  have hp := pi_pos
  unfold angle
  by_cases h1 : 0 < x
  · rw [if_pos h1]
    have hc := cos_arctan_pos (y / x)
    refine ⟨x / cos (arctan (y / x)), by positivity, by field_simp, ?_, ?_, ?_, ?_⟩
    · have ht : sin (arctan (y / x)) = y / x * cos (arctan (y / x)) := by
        have := tan_arctan (y / x)
        rw [tan_eq_sin_div_cos, div_eq_iff hc.ne'] at this
        exact this
      rw [ht]; field_simp
    · linarith [neg_pi_div_two_lt_arctan (y / x)]
    · linarith [arctan_lt_pi_div_two (y / x)]
    · intro h
      have : x / cos (arctan (y / x)) > 0 := by positivity
      linarith
  rw [if_neg h1]
  by_cases h2 : x < 0
  · rw [if_pos h2]
    have hc := cos_arctan_pos (y / x)
    have ht : sin (arctan (y / x)) = y / x * cos (arctan (y / x)) := by
      have := tan_arctan (y / x)
      rw [tan_eq_sin_div_cos, div_eq_iff hc.ne'] at this
      exact this
    have hr : 0 < -x / cos (arctan (y / x)) := div_pos (by linarith) hc
    have hx : x ≠ 0 := h2.ne
    by_cases h3 : 0 ≤ y
    · rw [if_pos h3]
      have ha : arctan (y / x) ≤ 0 := by
        rw [← arctan_zero]; exact arctan_strictMono.monotone (div_nonpos_of_nonneg_of_nonpos h3 h2.le)
      refine ⟨_, hr.le, ?_, ?_, ?_, ?_, fun h => absurd h hr.ne'⟩
      · rw [cos_add_pi]; field_simp
      · rw [sin_add_pi, ht]; field_simp
      · linarith [neg_pi_div_two_lt_arctan (y / x)]
      · linarith
    · rw [if_neg h3]
      have ha : 0 < arctan (y / x) := by
        rw [arctan_pos]; exact div_pos_of_neg_of_neg (by linarith) h2
      refine ⟨_, hr.le, ?_, ?_, ?_, ?_, fun h => absurd h hr.ne'⟩
      · rw [cos_sub_pi]; field_simp
      · rw [sin_sub_pi, ht]; field_simp
      · linarith
      · linarith [arctan_lt_pi_div_two (y / x)]
  rw [if_neg h2]
  have hx : x = 0 := by linarith
  by_cases h3 : 0 < y
  · rw [if_pos h3]
    exact ⟨y, h3.le, by simp [hx], by simp, by linarith, by linarith, fun h => absurd h h3.ne'⟩
  rw [if_neg h3]
  by_cases h4 : y < 0
  · rw [if_pos h4]
    exact ⟨-y, by linarith, by simp [hx], by simp, by linarith, by linarith, fun h => by linarith⟩
  rw [if_neg h4]
  exact ⟨0, le_rfl, by simp [hx], by simp; linarith, by linarith, by linarith, fun _ => rfl⟩

/-- The same in bins: a turned component is `r` times the sine of the bins left. -/
theorem bins_polar (y x : ℝ) : ∃ r : ℝ, 0 ≤ r ∧ (∀ b : ℕ, turn y x b = r * sin ((bins y x - b) * step)) ∧
    x = r * cos (bins y x * step) ∧ -9 < bins y x ∧ bins y x ≤ 9 ∧ (r = 0 → bins y x = 0) := by
  obtain ⟨r, hr, hx, hy, h1, h2, h0⟩ := angle_polar y x
  have hp := pi_pos
  have hb : bins y x * step = angle y x := by unfold bins step; field_simp
  refine ⟨r, hr, fun b => ?_, by rw [hb]; exact hx, ?_, ?_, fun h => by simp [bins, h0 h]⟩
  · have : turn y x b = cos (b * step) * (r * sin (angle y x)) - sin (b * step) * (r * cos (angle y x)) := by
      rw [← hx, ← hy, turn]
    rw [this, sub_mul, hb, sin_sub]
    ring
  · unfold bins
    rw [div_mul_eq_mul_div, lt_div_iff₀ hp]; nlinarith
  · unfold bins
    rw [div_mul_eq_mul_div, div_le_iff₀ hp]; nlinarith

/-- A sine of less than nine bins either way is nonnegative exactly when the bins are. -/
theorem sin_nonneg_iff {u : ℝ} (h1 : -9 < u) (h2 : u < 9) : 0 ≤ sin (u * step) ↔ 0 ≤ u := by
  have hs := step_pos
  have h9 := nine_step
  constructor
  · intro h
    by_contra hu
    push Not at hu
    have : sin (u * step) < 0 := sin_neg_of_neg_of_neg_pi_lt (mul_neg_of_neg_of_pos hu hs) (by nlinarith)
    linarith
  · intro hu
    exact sin_nonneg_of_nonneg_of_le_pi (mul_nonneg hu hs.le) (by nlinarith)

theorem sin_add_nine (u : ℝ) : sin ((u + 9) * step) = -sin (u * step) := by
  rw [add_mul, nine_step, sin_add_pi]

/-- Off the boundaries, with the first component not 0: the turned components change sign once, at the floor's bin. -/
theorem signs_of_ne {y x : ℝ} (hy : y ≠ 0) (H : ∀ b : ℕ, 1 ≤ b → b ≤ 8 → turn y x b = 0 → y = 0) :
    ∃ a : ℕ, a ≤ 8 ∧ ⌊bins y x⌋ % 9 = a ∧ ⌈bins y x⌉ % 9 = (a + 1) % 9 ∧ -9 ≤ ⌊bins y x⌋ ∧ ⌈bins y x⌉ ≤ 9 ∧
      ((∀ b : ℕ, b ≤ 9 → (0 ≤ turn y x b ↔ b ≤ a)) ∨ (∀ b : ℕ, b ≤ 9 → (0 ≤ turn y x b ↔ a < b))) := by
  obtain ⟨r, hr, ht, hx, h1, h2, h0⟩ := bins_polar y x
  generalize bins y x = t at *
  have hr' : 0 < r := by
    rcases hr.lt_or_eq with h | h
    · exact h
    · exfalso
      apply hy
      have := ht 0
      simpa [turn, ← h] using this
  -- no integer
  have hni : ∀ k : ℤ, t ≠ k := by
    intro k hk
    have hk1 : -9 < k := by rw [hk] at h1; exact_mod_cast h1
    have hk2 : k ≤ 9 := by rw [hk] at h2; exact_mod_cast h2
    have hy0 : y = r * sin (t * step) := by have := ht 0; simpa [turn] using this
    by_cases hc : k = 0
    · subst hc; apply hy; rw [hy0, hk]; simp
    by_cases hc9 : k = 9
    · subst hc9; apply hy; rw [hy0, hk]; simp [nine_step]
    rcases lt_or_gt_of_ne hc with hneg | hpos
    · apply hy
      obtain ⟨n, hn⟩ : ∃ n : ℕ, (n : ℤ) = k + 9 := ⟨(k + 9).toNat, by omega⟩
      refine H n (by omega) (by omega) ?_
      have hn' : (n : ℝ) = k + 9 := by exact_mod_cast hn
      rw [ht n, hk, hn', show ((k : ℝ) - (k + 9)) * step = -π by rw [← nine_step]; ring]
      simp
    · apply hy
      obtain ⟨n, hn⟩ : ∃ n : ℕ, (n : ℤ) = k := ⟨k.toNat, by omega⟩
      refine H n (by omega) (by omega) ?_
      have hn' : (n : ℝ) = k := by exact_mod_cast hn
      rw [ht n, hk, hn']; simp
  have hf := Int.floor_le t
  have hf2 := Int.lt_floor_add_one t
  have hflt : (⌊t⌋ : ℝ) < t := lt_of_le_of_ne hf (hni _).symm
  have hce : ⌈t⌉ = ⌊t⌋ + 1 := by
    rw [Int.ceil_eq_iff]; push_cast; constructor <;> linarith
  rw [hce]
  generalize ⌊t⌋ = f at *
  have hfl : -9 ≤ f := by
    have : (-10 : ℝ) < f := by linarith
    have : (-10 : ℤ) < f := by exact_mod_cast this
    omega
  have hfu : f < 9 := by
    have : (f : ℝ) < 9 := by linarith
    exact_mod_cast this
  have key : ∀ b : ℕ, 0 ≤ turn y x b ↔ 0 ≤ sin ((t - b) * step) := by
    intro b
    rw [ht b]
    exact mul_nonneg_iff_of_pos_left hr'
  by_cases hpos : 0 ≤ f
  · obtain ⟨a, rfl⟩ : ∃ a : ℕ, (a : ℤ) = f := ⟨f.toNat, by omega⟩
    refine ⟨a, by omega, by omega, by omega, by omega, by omega, Or.inl fun b hb => ?_⟩
    push_cast at hflt hf2
    have ha0 : (0 : ℝ) ≤ a := Nat.cast_nonneg a
    have hb0 : (0 : ℝ) ≤ b := Nat.cast_nonneg b
    have hb9 : (b : ℝ) ≤ 9 := by exact_mod_cast hb
    have ht9 : t < 9 := by
      refine lt_of_le_of_ne h2 ?_
      have := hni 9
      simpa using this
    rw [key, sin_nonneg_iff (by linarith) (by linarith), sub_nonneg]
    constructor
    · intro h
      have : (b : ℝ) < a + 1 := by linarith
      have : b < a + 1 := by exact_mod_cast this
      omega
    · intro h
      have : (b : ℝ) ≤ a := by exact_mod_cast h
      linarith
  · obtain ⟨a, ha⟩ : ∃ a : ℕ, (a : ℤ) = f + 9 := ⟨(f + 9).toNat, by omega⟩
    have ha' : (a : ℝ) = f + 9 := by exact_mod_cast ha
    refine ⟨a, by omega, by omega, by omega, by omega, by omega, Or.inr fun b hb => ?_⟩
    have hb0 : (0 : ℝ) ≤ b := Nat.cast_nonneg b
    have hb9 : (b : ℝ) ≤ 9 := by exact_mod_cast hb
    have hf0 : (f : ℝ) + 1 ≤ 0 := by
      have : f + 1 ≤ 0 := by omega
      exact_mod_cast this
    have hu : -sin ((t - b) * step) = sin ((t + 9 - b) * step) := by
      rw [← sin_add_nine]; congr 1; ring
    have hsin : 0 ≤ sin ((t - b) * step) ↔ t + 9 - b ≤ 0 := by
      have h3 : sin ((t - b) * step) = sin ((b - t - 9) * step) := by
        rw [← neg_neg (sin ((t - b) * step)), hu, ← sin_neg]; congr 1; ring
      rw [h3, sin_nonneg_iff (by linarith) (by linarith)]
      constructor <;> intro h <;> linarith
    rw [key, hsin]
    constructor
    · intro h
      have : (a : ℝ) < b := by linarith
      exact_mod_cast this
    · intro h
      have : a + 1 ≤ b := h
      have : ((a + 1 : ℕ) : ℝ) ≤ b := by exact_mod_cast this
      push_cast at this
      linarith

/-- With the first component 0 the angle is 0 or a half turn, and the turned components 1 … 8 have one sign. -/
theorem signs_of_eq (x : ℝ) : (⌊bins 0 x⌋ % 9 = 0 ∧ ⌈bins 0 x⌉ % 9 = 0 ∧ -9 ≤ ⌊bins 0 x⌋ ∧ ⌈bins 0 x⌉ ≤ 9) ∧
    ∀ b : ℕ, 1 ≤ b → b ≤ 8 → (0 ≤ turn 0 x b ↔ x ≤ 0) := by
  have hp := pi_pos
  constructor
  · have : bins 0 x = 0 ∨ bins 0 x = 9 := by
      unfold bins angle
      by_cases h1 : 0 < x
      · left; simp [h1]
      · by_cases h2 : x < 0
        · right; rw [if_neg h1, if_pos h2, if_pos le_rfl]; simp
        · left; simp [h1, h2]
    rcases this with h | h
    · rw [h]; simp
    · rw [h, show (9 : ℝ) = ((9 : ℤ) : ℝ) by norm_num, Int.floor_intCast, Int.ceil_intCast]; decide
  · intro b hb1 hb8
    have hs := step_pos
    have h9 := nine_step
    have hb1' : (1 : ℝ) ≤ b := by exact_mod_cast hb1
    have hb8' : (b : ℝ) ≤ 8 := by exact_mod_cast hb8
    have hsin : 0 < sin (b * step) := sin_pos_of_pos_of_lt_pi (by positivity) (by nlinarith)
    unfold turn
    rw [mul_zero, zero_sub, neg_nonneg]
    constructor
    · intro h
      by_contra hx
      push Not at hx
      have := mul_pos hsin hx
      linarith
    · intro h
      exact mul_nonpos_of_nonneg_of_nonpos hsin.le h

/-! ## What the kernel counts -/

/-- The turned component's sign test. -/
def ge (y x : ℝ) (b : ℕ) : Prop := 0 ≤ turn y x b

/-- The sign changes between `b` and `b + 1`. -/
def flip (y x : ℝ) (b : ℕ) : Prop := ¬(ge y x b ↔ ge y x (b + 1))

/-- The kernel's mask for bin `b`: the sign change; a gradient on the boundary `y = 0` is put in bin 0 and kept out of bin 8. -/
def mask (y x : ℝ) (b : ℕ) : Prop :=
  if b = 0 then flip y x b ∨ y = 0 else if b = 8 then flip y x b ∧ ¬ y = 0 else flip y x b

open Classical in
/-- A proposition as a number. -/
def ind (p : Prop) : ℝ := if p then 1 else 0

/-- How often the kernel counts a gradient's magnitude in bin `b`. -/
def count (y x : ℝ) (b : ℕ) : ℝ :=
  if b = 0 then ind (mask y x 0) + ind (mask y x 8) + ind (y = 0)
  else if b = 1 then ind (mask y x 1) + ind (mask y x 0) - ind (y = 0)
  else ind (mask y x b) + ind (mask y x (b - 1))

/-- **The bins agree**: the kernel counts a gradient in the floor's bin and in the ceiling's bin. -/
theorem count_eq {y x : ℝ} (H : ∀ b : ℕ, 1 ≤ b → b ≤ 8 → turn y x b = 0 → y = 0) {b : ℕ} (hb : b < 9) :
    count y x b = ind (⌊bins y x⌋ % 9 = b) + ind (⌈bins y x⌉ % 9 = b) := by
  by_cases hy : y = 0
  · subst hy
    obtain ⟨⟨h1, h2, -, -⟩, hs⟩ := signs_of_eq x
    have hf : ∀ k : ℕ, 1 ≤ k → k ≤ 7 → ¬ flip 0 x k := by
      intro k h1 h7 h
      apply h
      unfold ge
      rw [hs k h1 (by omega), hs (k + 1) (by omega) (by omega)]
    have hm : ∀ k : ℕ, k ≤ 8 → (mask 0 x k ↔ k = 0) := by
      intro k hk
      unfold mask
      by_cases h0 : k = 0
      · simp [h0]
      · by_cases h8 : k = 8
        · simp [h8]
        · simp [h0, h8, hf k (by omega) (by omega)]
    rw [h1, h2]
    unfold count ind
    interval_cases b <;> simp [hm]
  · obtain ⟨a, ha, h1, h2, -, -, hs⟩ := signs_of_ne hy H
    have hf : ∀ k : ℕ, k ≤ 8 → (flip y x k ↔ k = a) := by
      intro k hk
      unfold flip ge
      rcases hs with hs | hs
      · rw [hs k (by omega), hs (k + 1) (by omega)]; omega
      · rw [hs k (by omega), hs (k + 1) (by omega)]; omega
    have hm : ∀ k : ℕ, k ≤ 8 → (mask y x k ↔ k = a) := by
      intro k hk
      unfold mask
      split_ifs <;> simp [hy, hf k hk]
    rw [h1, h2]
    unfold count ind
    simp only [hy, if_false, add_zero, sub_zero]
    interval_cases b <;> interval_cases a <;> simp [hm]

/-- The floor and the ceiling stay within nine bins either way. -/
theorem bins_bounds (y x : ℝ) : (-9 ≤ ⌊bins y x⌋ ∧ ⌊bins y x⌋ ≤ 9) ∧ (-9 ≤ ⌈bins y x⌉ ∧ ⌈bins y x⌉ ≤ 9) := by
  obtain ⟨r, hr, ht, hx, h1, h2, h0⟩ := bins_polar y x
  refine ⟨⟨?_, ?_⟩, ⟨?_, ?_⟩⟩
  · rw [Int.le_floor]; push_cast; linarith
  · have : (⌊bins y x⌋ : ℝ) ≤ 9 := (Int.floor_le _).trans h2
    exact_mod_cast this
  · have : (-9 : ℝ) ≤ ⌈bins y x⌉ := h1.le.trans (Int.le_ceil _)
    exact_mod_cast this
  · rw [Int.ceil_le]; push_cast; linarith

/-! ## Gradients of images of finite floats never meet the other boundaries -/

/-- No integer square is three times another, but 0 (by descent: both would be divisible by 3). -/
theorem eq_zero_of_sq_eq_three {p q : ℤ} (h : p ^ 2 = 3 * q ^ 2) : p = 0 ∧ q = 0 := by
  obtain ⟨n, hn⟩ : ∃ n : ℕ, p.natAbs ≤ n := ⟨_, le_rfl⟩
  induction n generalizing p q with
  | zero =>
    have hp : p = 0 := by omega
    subst hp
    refine ⟨rfl, ?_⟩
    have : q ^ 2 = 0 := by linarith
    exact pow_eq_zero_iff (by norm_num) |>.mp this
  | succ n ih =>
    obtain ⟨k, r, hp, hr0, hr3⟩ : ∃ k r : ℤ, p = 3 * k + r ∧ 0 ≤ r ∧ r < 3 := ⟨p / 3, p % 3, by omega, by omega, by omega⟩
    have h1 : 3 * (3 * (k * k) + 2 * (k * r)) + r * r = 3 * (q * q) := by rw [hp] at h; linarith
    have hr : r = 0 := by
      generalize k * k = K at h1
      generalize k * r = R at h1
      generalize q * q = Q at h1
      interval_cases r <;> omega
    rw [hr] at h1 hp
    have h2 : q ^ 2 = 3 * k ^ 2 := by linarith
    by_cases hp0 : p = 0
    · have hk : k = 0 := by omega
      rw [hk] at h2
      refine ⟨hp0, ?_⟩
      have : q ^ 2 = 0 := by linarith
      exact pow_eq_zero_iff (by norm_num) |>.mp this
    · have hlt : q.natAbs < p.natAbs := by
        have h3 : 0 < p ^ 2 := by positivity
        have h4 : |q| < |p| := sq_lt_sq.mp (by linarith)
        rw [Int.abs_eq_natAbs, Int.abs_eq_natAbs] at h4
        exact_mod_cast h4
      obtain ⟨hq, hk⟩ := ih h2 (by omega)
      exact absurd (by omega) hp0

/-- A gradient of integer components on the boundary `b` (1 … 8) has first component 0: its cube lies at `b·π/3`, where
    the square of the tangent is 3 (or 0). -/
theorem boundary_int {p q : ℤ} {b : ℕ} (h1 : 1 ≤ b) (h8 : b ≤ 8) (h : turn p q b = 0) : p = 0 := by
  unfold turn at h
  have hcs := Real.sin_sq_add_cos_sq (b * step)
  have hc3 := Real.cos_three_mul (b * step)
  have hs3 := Real.sin_three_mul (b * step)
  have harg : 3 * ((b : ℝ) * step) = b * (π / 3) := by unfold step; ring
  rw [harg] at hc3 hs3
  by_cases h36 : b = 3 ∨ b = 6
  · have hsq : sin (b * step) ^ 2 = 3 / 4 := by
      rcases h36 with rfl | rfl
      · rw [show ((3 : ℕ) : ℝ) * step = π / 3 by unfold step; push_cast; ring, sin_pi_div_three, div_pow, Real.sq_sqrt (by norm_num)]
        norm_num
      · rw [show ((6 : ℕ) : ℝ) * step = π - π / 3 by unfold step; push_cast; ring, sin_pi_sub, sin_pi_div_three, div_pow, Real.sq_sqrt (by norm_num)]
        norm_num
    generalize cos (b * step) = c at *
    generalize sin (b * step) = s at *
    have hcq : c ^ 2 = 1 / 4 := by linarith
    have : (c * (p : ℝ)) ^ 2 = (s * q) ^ 2 := by rw [sub_eq_zero.mp h]
    rw [mul_pow, mul_pow, hcq, hsq] at this
    have h2 : (p : ℝ) ^ 2 = 3 * (q : ℝ) ^ 2 := by linarith
    exact (eq_zero_of_sq_eq_three (by exact_mod_cast h2)).1
  · have hsq : sin (b * (π / 3)) ^ 2 = 3 / 4 := by
      have e1 : sin (π / 3) ^ 2 = 3 / 4 := by rw [sin_pi_div_three, div_pow, Real.sq_sqrt (by norm_num)]; norm_num
      have hb : b = 1 ∨ b = 2 ∨ b = 4 ∨ b = 5 ∨ b = 7 ∨ b = 8 := by omega
      rcases hb with rfl | rfl | rfl | rfl | rfl | rfl
      · rw [show ((1 : ℕ) : ℝ) * (π / 3) = π / 3 by push_cast; ring, e1]
      · rw [show ((2 : ℕ) : ℝ) * (π / 3) = π - π / 3 by push_cast; ring, sin_pi_sub, e1]
      · rw [show ((4 : ℕ) : ℝ) * (π / 3) = π / 3 + π by push_cast; ring, sin_add_pi, neg_sq, e1]
      · rw [show ((5 : ℕ) : ℝ) * (π / 3) = 2 * π - π / 3 by push_cast; ring, sin_two_pi_sub, neg_sq, e1]
      · rw [show ((7 : ℕ) : ℝ) * (π / 3) = π / 3 + 2 * π by push_cast; ring, sin_add_two_pi, e1]
      · rw [show ((8 : ℕ) : ℝ) * (π / 3) = (π - π / 3) + 2 * π by push_cast; ring, sin_add_two_pi, sin_pi_sub, e1]
    have hcq : cos (b * (π / 3)) ^ 2 = 1 / 4 := by
      have := Real.sin_sq_add_cos_sq (b * (π / 3)); linarith
    rw [hs3] at hsq
    rw [hc3] at hcq
    generalize cos (b * step) = c at *
    generalize sin (b * step) = s at *
    -- the gradient is `ρ` times the unit vector
    obtain ⟨ρ, hρ⟩ : ∃ ρ : ℝ, ρ = c * q + s * p := ⟨_, rfl⟩
    have hq : (q : ℝ) = c * ρ := by
      rw [hρ]; linear_combination (-(q : ℝ)) * hcs - s * h
    have hp : (p : ℝ) = s * ρ := by
      rw [hρ]; linear_combination (-(p : ℝ)) * hcs + c * h
    have e1 : (3 * (q : ℝ) ^ 2 * p - (p : ℝ) ^ 3) = ρ ^ 3 * (3 * s - 4 * s ^ 3) := by
      rw [hp, hq]; linear_combination (3 * ρ ^ 3 * s) * hcs
    have e2 : ((q : ℝ) ^ 3 - 3 * q * (p : ℝ) ^ 2) = ρ ^ 3 * (4 * c ^ 3 - 3 * c) := by
      rw [hp, hq]; linear_combination (-3 * ρ ^ 3 * c) * hcs
    have e3 : (3 * (q : ℝ) ^ 2 * p - (p : ℝ) ^ 3) ^ 2 = 3 * ((q : ℝ) ^ 3 - 3 * q * (p : ℝ) ^ 2) ^ 2 := by
      rw [e1, e2, mul_pow, mul_pow, hsq, hcq]; ring
    have e4 := eq_zero_of_sq_eq_three (p := 3 * q ^ 2 * p - p ^ 3) (q := q ^ 3 - 3 * q * p ^ 2) (by exact_mod_cast e3)
    have e5 : (3 * (q : ℝ) ^ 2 * p - (p : ℝ) ^ 3) = 0 := by exact_mod_cast e4.1
    rw [e1] at e5
    have hρ0 : ρ = 0 := by
      rcases mul_eq_zero.mp e5 with h | h
      · exact pow_eq_zero_iff (by norm_num) |>.mp h
      · rw [h] at hsq; norm_num at hsq
    rw [hρ0, mul_zero] at hp
    exact_mod_cast hp

/-- The same of components that are integer multiples of one unit. -/
theorem boundary_of_unit {y x u : ℝ} (hu : u ≠ 0) (hy : ∃ p : ℤ, y = p * u) (hx : ∃ q : ℤ, x = q * u) :
    ∀ b : ℕ, 1 ≤ b → b ≤ 8 → turn y x b = 0 → y = 0 := by
  obtain ⟨p, rfl⟩ := hy
  obtain ⟨q, rfl⟩ := hx
  intro b h1 h8 h
  have : turn p q b = 0 := by
    unfold turn at h ⊢
    have : (cos (b * step) * p - sin (b * step) * q) * u = 0 := by linarith
    exact (mul_eq_zero.mp this).resolve_right hu
  rw [boundary_int h1 h8 this]; simp

end Cert.Hog

end
-- ==== Proof.Spec.lean ====
/-
  The descriptor over the reals: the padded image, its two directed differences, the length of the pair, and the
  cells' sums, bin by bin.
-/
module

public import proofs.«01_k».proof.Proof.Angle

@[expose] public section

noncomputable section

namespace Cert.Hog

open Idealize.ShloMosaic

/-- A line of 512 numbers with a zero on either side, the line itself starting at place 1. -/
def pad (f : Fin 512 → ℝ) (a : ℕ) : ℝ := if h : 1 ≤ a ∧ a - 1 < 512 then f ⟨a - 1, h.2⟩ else 0

/-- An image with a zero border, the image itself starting at row 1 and column 1. -/
def pix (X : Fin 512 → Fin 512 → ℝ) (a b : ℕ) : ℝ := pad (fun w => pad (fun h => X h w) a) b

/-- The horizontal difference at a pixel: smoothed down the columns, the left neighbour less the right one. -/
def gy (X : Fin 512 → Fin 512 → ℝ) (h w : ℕ) : ℝ :=
  (pix X h w - pix X h (w + 2)) + 2 * (pix X (h + 1) w - pix X (h + 1) (w + 2)) + (pix X (h + 2) w - pix X (h + 2) (w + 2))

/-- The vertical difference at a pixel: smoothed along the rows, the upper neighbour less the lower one. -/
def gx (X : Fin 512 → Fin 512 → ℝ) (h w : ℕ) : ℝ :=
  (pix X h w + 2 * pix X h (w + 1) + pix X h (w + 2)) - (pix X (h + 2) w + 2 * pix X (h + 2) (w + 1) + pix X (h + 2) (w + 2))

/-- The smoothing weights 1, 2, 1 and the differencing weights 1, 0, -1. -/
def smooth (i : Fin 3) : ℝ := if i = 1 then 2 else 1
def differ (i : Fin 3) : ℝ := if i = 0 then 1 else if i = 1 then 0 else -1

/-- The two 3 by 3 filters: smooth down and difference across, and the other way round. -/
def sobel (o : Fin 2) (i j : Fin 3) : ℝ := if o = 0 then smooth i * differ j else differ i * smooth j

/-- A filter applied at a pixel: the nine weighted neighbours, summed. -/
def filtered (X : Fin 512 → Fin 512 → ℝ) (o : Fin 2) (h w : ℕ) : ℝ :=
  ∑ i : Fin 3, ∑ j : Fin 3, sobel o i j * pix X (h + i.val) (w + j.val)

theorem filtered_zero (X : Fin 512 → Fin 512 → ℝ) (h w : ℕ) : filtered X 0 h w = gy X h w := by
  simp only [filtered, sobel, smooth, differ, gy, Fin.sum_univ_three]
  simp
  ring

theorem filtered_one (X : Fin 512 → Fin 512 → ℝ) (h w : ℕ) : filtered X 1 h w = gx X h w := by
  simp only [filtered, sobel, smooth, differ, gx, Fin.sum_univ_three]
  simp
  ring

/-- The floor under the squared length. -/
def eps : ℝ := (Ideal.ofBits .f32 0x0DA24260#32).toReal

/-- The length of the pair of differences. -/
def mag (y x : ℝ) : ℝ := Real.sqrt (max (y * y + x * x) eps)

/-- What a pixel gives to bin `b`. -/
def vote (X : Fin 512 → Fin 512 → ℝ) (b h w : ℕ) : ℝ := count (gy X h w) (gx X h w) b * mag (gy X h w) (gx X h w)

/-- Bin `b` of the cell `(p, q)`: the mean of the cell's pixels. -/
def hog (X : Fin 512 → Fin 512 → ℝ) (b p q : ℕ) : ℝ :=
  (∑ h : Fin 512, ∑ w : Fin 512, ind (h.val / 8 = p) * ind (w.val / 8 = q) * vote X b h.val w.val) * (1 / 64)

/-- A sum of reals, seen among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row of an image as a row of the upper and of the lower half of a matrix of 1024 rows. -/
theorem up_lt (h : Fin 512) : h.val < 1024 := by omega
theorem down_lt (h : Fin 512) : 512 + h.val < 1024 := by omega

/-- The floor is a positive real. -/
theorem eps_coe : Ideal.ofBits .f32 0x0DA24260#32 = ((eps : ℝ) : EReal) := by
  unfold eps
  simp [Ideal.ofBits, Ideal.ieee, -EReal.coe_mul]

/-- The length of a pair of reals, as the programs compute it. -/
theorem mag_coe (y x : ℝ) : Ideal.sqrt (max ((y : EReal) * y + (x : EReal) * x) (Ideal.ofBits .f32 0x0DA24260#32)) = ((mag y x : ℝ) : EReal) := by
  rw [eps_coe, ← EReal.coe_mul, ← EReal.coe_mul, ← EReal.coe_add, ← (EReal.coe_strictMono.monotone).map_max, Ideal.sqrt_coe,
    if_neg (not_lt.mpr (le_max_of_le_left (add_nonneg (mul_self_nonneg y) (mul_self_nonneg x))))]
  rfl

/-- One place of a padded line as a sum over the line. -/
theorem pad_sum (f : Fin 512 → ℝ) (a : ℕ) : ∑ k : Fin 512, ind (k.val + 1 = a) * f k = pad f a := by
  unfold pad
  split_ifs with h
  · rw [Finset.sum_eq_single ⟨a - 1, h.2⟩]
    · simp [ind, show a - 1 + 1 = a by omega]
    · intro k _ hk
      have : ¬ (k.val + 1 = a) := fun e => hk (Fin.ext (by simp; omega))
      simp [ind, this]
    · simp
  · refine Finset.sum_eq_zero fun k _ => ?_
    have : ¬ (k.val + 1 = a) := fun e => h ⟨by omega, by omega⟩
    simp [ind, this]

/-- The padded line is linear in the line. -/
theorem pad_smooth (f g k : Fin 512 → ℝ) (a : ℕ) : pad (fun w => f w + 2 * g w + k w) a = pad f a + 2 * pad g a + pad k a := by
  unfold pad; split_ifs <;> ring

theorem pad_diff (f g : Fin 512 → ℝ) (a : ℕ) : pad (fun w => f w - g w) a = pad f a - pad g a := by
  unfold pad; split_ifs <;> ring

theorem pad_left (f : Fin 512 → ℝ) (w : Fin 512) : (if h : w.val < 1 then 0 else f ⟨w.val - 1, by omega⟩) = pad f w.val := by
  unfold pad
  split_ifs with h h' h'
  · omega
  · rfl
  · rfl
  · omega

theorem pad_right (f : Fin 512 → ℝ) (w : Fin 512) : (if h : w.val < 511 then f ⟨1 + w.val, by omega⟩ else 0) = pad f (w.val + 2) := by
  unfold pad
  split_ifs with h h' h'
  · congr 1; ext; simp; omega
  · omega
  · omega
  · rfl

theorem pad_mid (f : Fin 512 → ℝ) (w : Fin 512) : f w = pad f (w.val + 1) := by
  unfold pad
  rw [dif_pos ⟨by omega, by omega⟩]
  congr 1

end Cert.Hog

end
-- ==== Proof.Precond.lean ====
/-
  What the precondition says at the ideal instance: every pixel is a real number and a whole multiple of the smallest
  positive single-precision number, and the weight is the pair of Sobel filters.
-/
module

public import proofs.«01_k».proof.Pre_float_image_sobel_weight
public import proofs.«01_k».proof.Proof.Gen.Pre_float_image_sobel_weight
public import proofs.«01_k».proof.Proof.Spec
public import Idealize.ShloMosaic.Lib.Pointwise
public import Idealize.ShloMosaic.Lib.ReduceAll

@[expose] public section

set_option maxRecDepth 16384

noncomputable section

namespace Cert.Pre_float_image_sobel_weight.Hog

open Cert.Pre_float_image_sobel_weight Cert.Pre_float_image_sobel_weight.Gen Idealize.ShloMosaic
open Cert.Hog

/-- A comparison word that is one is a comparison that holds. -/
theorem of_word {p : Prop} [Decidable p] (h : BitVec.ofBool (decide p) = 1#1) : p := by
  by_contra hp
  simp [hp] at h

/-- Every single-precision number is a whole multiple of this one, the smallest positive. -/
def unit : ℝ := 1 / 2 ^ 149

theorem unit_ne : unit ≠ 0 := by unfold unit; positivity

theorem lit_big : Ideal.ofBits .f32 0x7F7FFFFF#32 = ((16777215 * 2 ^ 104 : ℝ) : EReal) := by
  simp [Ideal.ofBits, Ideal.ieee, -EReal.coe_mul]

theorem lit_100 : Ideal.ofBits .f32 0x71800000#32 = ((2 ^ 100 : ℝ) : EReal) := by
  simp [Ideal.ofBits, Ideal.ieee, -EReal.coe_mul, -EReal.coe_pow]
  norm_num

theorem lit_49 : Ideal.ofBits .f32 0x58000000#32 = ((2 ^ 49 : ℝ) : EReal) := by
  simp [Ideal.ofBits, Ideal.ieee, -EReal.coe_mul, -EReal.coe_pow]
  norm_num

/-- A number of bounded size is real. -/
theorem real_of_bounded {e : EReal} (h : max e (-e) ≤ Ideal.ofBits .f32 0x7F7FFFFF#32) : ∃ r : ℝ, e = (r : EReal) := by
  rw [lit_big] at h
  induction e using EReal.rec with
  | bot => exact absurd (le_of_max_le_right h) (by rw [EReal.neg_bot]; exact not_le.mpr (EReal.coe_lt_top _))
  | top => exact absurd (le_of_max_le_left h) (not_le.mpr (EReal.coe_lt_top _))
  | coe r => exact ⟨r, rfl⟩

/-- A real that scales to a whole number is a whole multiple of the unit. -/
theorem whole_of_floor {r : ℝ}
    (h : Ideal.liftRound Int.floor ((r : EReal) * Ideal.ofBits .f32 0x71800000#32 * Ideal.ofBits .f32 0x58000000#32)
      = (r : EReal) * Ideal.ofBits .f32 0x71800000#32 * Ideal.ofBits .f32 0x58000000#32) : ∃ p : ℤ, r = p * unit := by
  rw [lit_100, lit_49, ← EReal.coe_mul, ← EReal.coe_mul, Ideal.liftRound_coe] at h
  have h' : ((⌊r * 2 ^ 100 * 2 ^ 49⌋ : ℤ) : ℝ) = r * 2 ^ 100 * 2 ^ 49 := EReal.coe_injective h
  refine ⟨⌊r * 2 ^ 100 * 2 ^ 49⌋, ?_⟩
  rw [h']
  unfold unit
  ring

/-- The weight the precondition compares with: the first filter and its transpose. -/
def weight : FVec Ideal S2x1x3x3 .f32 :=
  broadcastInDim S2x1x3x3 ![0, 2, 3] bcast_S2x3x3_S2x1x3x3_0_2_3 (concatenate S2x3x3 0
    [⟨S1x3x3, broadcastInDim S1x3x3 ![1, 2] bcast_S3x3_S1x3x3_1_2 fun i => FloatOps.ofBits FTy.f32 (lit0 (S3x3.rowMajor i))⟩,
      ⟨S1x3x3, broadcastInDim S1x3x3 ![1, 2] bcast_S3x3_S1x3x3_1_2
        (transpose S3x3 [1, 0] (fun i => FloatOps.ofBits FTy.f32 (lit0 (S3x3.rowMajor i))) transposes_S3x3_S3x3_1_0)⟩]
    concatenates_S1x3x3_S1x3x3_S2x3x3_d0)

/-- The table, read by row and column. -/
theorem lit_table : ∀ i j : Fin 3, lit0 (S3x3.rowMajor (ix2 i j))
    = (![![0x3F800000#32, 0x00000000#32, 0xBF800000#32], ![0x40000000#32, 0x00000000#32, 0xC0000000#32],
        ![0x3F800000#32, 0x00000000#32, 0xBF800000#32]] : Fin 3 → Fin 3 → BitVec 32) i j := by
  decide +kernel

theorem weight_value (o : Fin 2) (i j : Fin 3) : weight (ix4 o 0 i j) = ((sobel o i j : ℝ) : EReal) := by
  pointwise [weight]
  have hb : ∀ i j : Fin 3, Ideal.ofBits .f32 (lit0 (S3x3.rowMajor (ix2 i j))) = ((smooth i * differ j : ℝ) : EReal) := by
    intro i j
    rw [lit_table]
    unfold smooth differ
    fin_cases i <;> fin_cases j <;> simp [Ideal.ofBits, Ideal.ieee, -EReal.coe_mul] <;> norm_num
  simp only [hb]
  unfold sobel
  fin_cases o
  · rfl
  · exact congrArg (fun r : ℝ => (r : EReal)) (mul_comm ..)

variable (x0 : FVec Ideal S16x1x512x512 .f32) (x1 : FVec Ideal S2x1x3x3 .f32)

theorem parts (h : fn (F := Ideal) x0 x1 = fun _ => 1#1) :
    (∀ n h w, (∃ p : ℤ, x0 (ix4 n 0 h w) = ((p * unit : ℝ) : EReal))) ∧ ∀ o i j, x1 (ix4 o 0 i j) = ((sobel o i j : ℝ) : EReal) := by
  have h0 := congrFun h ix0
  dsimp only [fn, fn_part1] at h0
  obtain ⟨h16, h18⟩ := IntOp.andi_eq_one.1 h0
  obtain ⟨h12, h15⟩ := IntOp.andi_eq_one.1 h16
  clear h h0 h16
  have : Subsingleton S_.Idx := ⟨fun a b => funext fun i => i.elim0⟩
  constructor
  · intro n h w
    have e1 := Host.reduce_andi_all _ _ _ _ _ h12 (ix4 n 0 h w)
    have e2 := Host.reduce_andi_all _ _ _ _ _ h15 (ix4 n 0 h w)
    have e1' : BitVec.ofBool (decide (max (x0 (ix4 n 0 h w)) (-x0 (ix4 n 0 h w)) ≤ Ideal.ofBits .f32 0x7F7FFFFF#32)) = 1#1 := e1
    have e2' : BitVec.ofBool (decide (Ideal.liftRound Int.floor (x0 (ix4 n 0 h w) * Ideal.ofBits .f32 0x71800000#32 * Ideal.ofBits .f32 0x58000000#32)
      = x0 (ix4 n 0 h w) * Ideal.ofBits .f32 0x71800000#32 * Ideal.ofBits .f32 0x58000000#32)) = 1#1 := e2
    obtain ⟨r, hr⟩ := real_of_bounded (of_word e1')
    rw [hr] at e2' ⊢
    obtain ⟨p, hp⟩ := whole_of_floor (of_word e2')
    exact ⟨p, congrArg _ hp⟩
  · intro o i j
    have e1 := Host.reduce_andi_all _ _ _ _ _ h18 (ix4 o 0 i j)
    clear h12 h15 h18
    have e1' : BitVec.ofBool (decide (x1 (ix4 o 0 i j) = weight (ix4 o 0 i j))) = 1#1 := e1
    rw [of_word e1', weight_value]

end Cert.Pre_float_image_sobel_weight.Hog

end
-- ==== Proof.RefGradient.lean ====
/-
  What the reference computes first: the padded image, and the two filtered images.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hog

open Cert.ReferenceIdeal Cert.ReferenceIdeal.Gen Cert.ReferenceIdeal.Read Idealize.ShloMosaic Idealize.ShloMosaic.TcCoe Idealize.SL.Sem
open Cert.Hog

/-- A pixel and its two neighbours below stay inside the padded image. -/
theorem near_lt0 (h : Fin 512) : h.val < 514 := by omega
theorem near_lt1 (h : Fin 512) : 1 + h.val < 514 := by omega
theorem near_lt2 (h : Fin 512) : 2 + h.val < 514 := by omega

/-- The padding value, an integer zero as a float. -/
theorem pad_zero : val_main_call0_v0 (F := Ideal) (Shape.Idx.first h_S_) = ((0 : ℝ) : EReal) := by
  show (((0#32 : BitVec 32).toInt : ℝ) : EReal) = _
  simp

variable (x0 : Vec Ideal S16x1x512x512 .f32) (x1 : Vec Ideal S2x1x3x3 .f32) (X : Fin 16 → Fin 512 → Fin 512 → ℝ)
variable (hX : ∀ n h w, x0 (ix4 n 0 h w) = ((X n h w : ℝ) : EReal))
variable (hW : ∀ o i j, x1 (ix4 o 0 i j) = ((sobel o i j : ℝ) : EReal))

include hX in
/-- The padded image. -/
theorem pad_value (n : Fin 16) (a b : Fin 514) : val_main_v0 (F := Ideal) x0 (ix4 n 0 a b) = ((pix (X n) a.val b.val : ℝ) : EReal) := by
  pointwise [val_main_v0]
  unfold pix Cert.Hog.pad
  split_ifs with h h1 h2 h1 h2
  · exact hX ..
  · exact absurd h.1 h2
  · exact absurd h.2 h1
  · exact absurd ⟨h2, h1⟩ h
  · exact pad_zero
  · exact pad_zero

/-- The filtered image as nine weighted shifts of the padded image. -/
theorem filter_raw (n : Fin 16) (o : Fin 2) (h w : Fin 512) :
    val_main_v73 (F := Ideal) x0 x1 (ix4 n o h w)
      = x1 (ix4 o 0 0 0) * val_main_v0 (F := Ideal) x0 (ix4 n 0 ⟨h.val, near_lt0 h⟩ ⟨w.val, near_lt0 w⟩)
        + x1 (ix4 o 0 0 1) * val_main_v0 (F := Ideal) x0 (ix4 n 0 ⟨h.val, near_lt0 h⟩ ⟨1 + w.val, near_lt1 w⟩)
        + x1 (ix4 o 0 0 2) * val_main_v0 (F := Ideal) x0 (ix4 n 0 ⟨h.val, near_lt0 h⟩ ⟨2 + w.val, near_lt2 w⟩)
        + x1 (ix4 o 0 1 0) * val_main_v0 (F := Ideal) x0 (ix4 n 0 ⟨1 + h.val, near_lt1 h⟩ ⟨w.val, near_lt0 w⟩)
        + x1 (ix4 o 0 1 1) * val_main_v0 (F := Ideal) x0 (ix4 n 0 ⟨1 + h.val, near_lt1 h⟩ ⟨1 + w.val, near_lt1 w⟩)
        + x1 (ix4 o 0 1 2) * val_main_v0 (F := Ideal) x0 (ix4 n 0 ⟨1 + h.val, near_lt1 h⟩ ⟨2 + w.val, near_lt2 w⟩)
        + x1 (ix4 o 0 2 0) * val_main_v0 (F := Ideal) x0 (ix4 n 0 ⟨2 + h.val, near_lt2 h⟩ ⟨w.val, near_lt0 w⟩)
        + x1 (ix4 o 0 2 1) * val_main_v0 (F := Ideal) x0 (ix4 n 0 ⟨2 + h.val, near_lt2 h⟩ ⟨1 + w.val, near_lt1 w⟩)
        + x1 (ix4 o 0 2 2) * val_main_v0 (F := Ideal) x0 (ix4 n 0 ⟨2 + h.val, near_lt2 h⟩ ⟨2 + w.val, near_lt2 w⟩) := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_cst]

include hX hW in
/-- The filtered image. -/
theorem filter_value (n : Fin 16) (o : Fin 2) (h w : Fin 512) :
    val_main_v73 (F := Ideal) x0 x1 (ix4 n o h w) = ((filtered (X n) o h.val w.val : ℝ) : EReal) := by
  rw [filter_raw]
  simp only [pad_value x0 X hX, hW, ← EReal.coe_mul, ← EReal.coe_add]
  refine congrArg _ ?_
  simp only [filtered, Fin.sum_univ_three, Fin.val_zero, Fin.val_one, Fin.val_two, Nat.add_zero, Nat.add_comm 1, Nat.add_comm 2]
  ring

include hX hW in
theorem filter_y (n : Fin 16) (h w : Fin 512) :
    val_main_v73 (F := Ideal) x0 x1 (ix4 n 0 h w) = ((gy (X n) h.val w.val : ℝ) : EReal) := by
  rw [filter_value x0 x1 X hX hW, filtered_zero]

include hX hW in
theorem filter_x (n : Fin 16) (h w : Fin 512) :
    val_main_v73 (F := Ideal) x0 x1 (ix4 n 1 h w) = ((gx (X n) h.val w.val : ℝ) : EReal) := by
  rw [filter_value x0 x1 X hX hW, filtered_one]

end Cert.ReferenceIdeal.Hog

end
-- ==== Proof.RefBins.lean ====
/-
  What the reference computes at a pixel: the length of the gradient, its direction counted in bins, the two
  neighbouring bins, and what the pixel gives to each bin.
-/
module

public import proofs.«01_k».proof.Proof.RefGradient

@[expose] public section

set_option maxRecDepth 16384

noncomputable section

namespace Cert.ReferenceIdeal.Hog

open Cert.ReferenceIdeal Cert.ReferenceIdeal.Gen Cert.ReferenceIdeal.Read Idealize.ShloMosaic Idealize.ShloMosaic.TcCoe Idealize.SL.Sem
open Cert.Hog

/-- The remainder by nine of a small number, as it prints: truncated, nine more when it is negative. -/
theorem mod_nine : ∀ k : Fin 19,
    Scalar.select (IntOp.andi
        (IntOp.cmpi .ne (IntOp.cmpi .slt (IntOp.remsi ArithUnit.host (BitVec.ofInt 32 ((k.val : ℤ) - 9)) 9#32) 0#32) (IntOp.cmpi .slt 9#32 0#32))
        (IntOp.cmpi .ne (IntOp.remsi ArithUnit.host (BitVec.ofInt 32 ((k.val : ℤ) - 9)) 9#32) 0#32))
      (IntOp.addi (IntOp.remsi ArithUnit.host (BitVec.ofInt 32 ((k.val : ℤ) - 9)) 9#32) 9#32)
      (IntOp.remsi ArithUnit.host (BitVec.ofInt 32 ((k.val : ℤ) - 9)) 9#32) = BitVec.ofInt 32 (((k.val : ℤ) - 9) % 9) := by
  decide +kernel

theorem mod_nine_int (k : ℤ) (h1 : -9 ≤ k) (h2 : k ≤ 9) :
    Scalar.select (IntOp.andi
        (IntOp.cmpi .ne (IntOp.cmpi .slt (IntOp.remsi ArithUnit.host (BitVec.ofInt 32 k) 9#32) 0#32) (IntOp.cmpi .slt 9#32 0#32))
        (IntOp.cmpi .ne (IntOp.remsi ArithUnit.host (BitVec.ofInt 32 k) 9#32) 0#32))
      (IntOp.addi (IntOp.remsi ArithUnit.host (BitVec.ofInt 32 k) 9#32) 9#32)
      (IntOp.remsi ArithUnit.host (BitVec.ofInt 32 k) 9#32) = BitVec.ofInt 32 (k % 9) := by
  have h := mod_nine ⟨(k + 9).toNat, by omega⟩
  have e : (((k + 9).toNat : ℕ) : ℤ) - 9 = k := by omega
  simpa only [e] using h

/-- A small integer, carried through the extended reals into a word. -/
theorem fptosi_int (k : ℤ) (h1 : -9 ≤ k) (h2 : k ≤ 9) : Ideal.fptosi 32 (((k : ℝ) : ℝ) : EReal) = BitVec.ofInt 32 k := by
  show BitVec.ofInt 32 (Ideal.toIntClamped _ _ _) = _
  rw [Ideal.toIntClamped_coe, Int.floor_intCast, Int.ceil_intCast, ite_self]
  norm_num
  rw [min_eq_right (by omega), max_eq_right (by omega)]

theorem word_eq (k : ℤ) (b : Fin 9) : IntOp.cmpi .eq (BitVec.ofInt 32 (k % 9)) (BitVec.ofNat 32 b.val) = BitVec.ofBool (decide (k % 9 = (b.val : ℤ))) := by
  unfold IntOp.cmpi
  refine congrArg _ ?_
  show (_ == _) = _
  have h1 := Int.emod_nonneg k (by norm_num : (9:ℤ) ≠ 0)
  have h2 := Int.emod_lt_of_pos k (by norm_num : (0:ℤ) < 9)
  rw [Bool.eq_iff_iff, beq_iff_eq, decide_eq_true_iff, ← BitVec.toNat_inj]
  simp only [BitVec.toNat_ofNat, BitVec.toNat_ofInt]
  omega

/-- A truth word as a float is the indicator. -/
theorem uitofp_ind (p : Prop) [Decidable p] : FloatOps.uitofp (F := Ideal) .f32 (BitVec.ofBool (decide p)) = ((ind p : ℝ) : EReal) := by
  show (((BitVec.ofBool (decide p)).toNat : ℝ) : EReal) = _
  unfold ind
  by_cases hp : p <;> simp [hp]

/-- The literals minus one and nine. -/
theorem minus_one : Ideal.ofBits .f32 3212836864#32 = ((-1 : ℝ) : EReal) := by
  simp [Ideal.ofBits, Ideal.ieee, -EReal.coe_mul]; norm_num

theorem nine : Ideal.ofBits .f32 1091567616#32 = ((9 : ℝ) : EReal) := by
  simp [Ideal.ofBits, Ideal.ieee, -EReal.coe_mul]; norm_num

variable (x0 : Vec Ideal S16x1x512x512 .f32) (x1 : Vec Ideal S2x1x3x3 .f32) (X : Fin 16 → Fin 512 → Fin 512 → ℝ)
variable (hX : ∀ n h w, x0 (ix4 n 0 h w) = ((X n h w : ℝ) : EReal))
variable (hW : ∀ o i j, x1 (ix4 o 0 i j) = ((sobel o i j : ℝ) : EReal))

include hX hW in
theorem mag_value (n : Fin 16) (h w : Fin 512) :
    val_main_v78 (F := Ideal) x0 x1 (ix3 n h w) = ((mag (gy (X n) h.val w.val) (gx (X n) h.val w.val) : ℝ) : EReal) := by
  pointwise [val_main_v74, val_main_cst_0, val_main_v75, val_main_cst_1, val_main_v76, val_main_v77, val_main_v78]
  rw [Fin.sum_univ_two, filter_y x0 x1 X hX hW, filter_x x0 x1 X hX hW]
  exact mag_coe _ _

include hX hW in
theorem bins_value (n : Fin 16) (h w : Fin 512) :
    val_main_v88 (F := Ideal) x0 x1 (ix3 n h w) = ((bins (gy (X n) h.val w.val) (gx (X n) h.val w.val) : ℝ) : EReal) := by
  pointwise [val_main_v79, val_main_v80, val_main_v81, val_main_v82, val_main_v83, val_main_v84, val_main_v85, val_main_v86, val_main_v87, val_main_v88, val_main_cst_2, val_main_cst_3]
  rw [filter_y x0 x1 X hX hW, filter_x x0 x1 X hX hW, minus_one, nine, Ideal.acos_coe, if_pos (by norm_num), Real.arccos_neg_one]
  show Ideal.div ((angle (gy (X n) h.val w.val) (gx (X n) h.val w.val) : ℝ) : EReal) _ * _ = _
  rw [Ideal.div_coe Real.pi_ne_zero, ← EReal.coe_mul, ← EReal.coe_mul]
  refine congrArg _ ?_
  unfold bins
  rw [mul_one_div]

include hX hW in
theorem floor_value (n : Fin 16) (h w : Fin 512) :
    val_main_v91 (F := Ideal) x0 x1 (ix3 n h w) = BitVec.ofInt 32 (⌊bins (gy (X n) h.val w.val) (gx (X n) h.val w.val)⌋ % 9) := by
  pointwise [val_main_v89, val_main_v90, val_main_v91, val_main_c_4, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_v14, val_main_call1_c, val_main_call1_c_0, val_main_call1_c_1, val_main_call1_c_2, val_main_call1_c_3]
  rw [bins_value x0 x1 X hX hW]
  have hb := (bins_bounds (gy (X n) h.val w.val) (gx (X n) h.val w.val)).1
  have e : FloatOps.fptosi (F := Ideal) (φ := .f32) 32 (Ideal.liftRound Int.floor ((bins (gy (X n) h.val w.val) (gx (X n) h.val w.val) : ℝ) : EReal))
      = BitVec.ofInt 32 (Int.floor (bins (gy (X n) h.val w.val) (gx (X n) h.val w.val))) := fptosi_int _ hb.1 hb.2
  rw [e]
  exact mod_nine_int _ hb.1 hb.2

include hX hW in
theorem ceil_value (n : Fin 16) (h w : Fin 512) :
    val_main_v94 (F := Ideal) x0 x1 (ix3 n h w) = BitVec.ofInt 32 (⌈bins (gy (X n) h.val w.val) (gx (X n) h.val w.val)⌉ % 9) := by
  pointwise [val_main_v92, val_main_v93, val_main_v94, val_main_c_5, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_v14, val_main_call2_c, val_main_call2_c_0, val_main_call2_c_1, val_main_call2_c_2, val_main_call2_c_3]
  rw [bins_value x0 x1 X hX hW]
  have hb := (bins_bounds (gy (X n) h.val w.val) (gx (X n) h.val w.val)).2
  have e : FloatOps.fptosi (F := Ideal) (φ := .f32) 32 (Ideal.liftRound Int.ceil ((bins (gy (X n) h.val w.val) (gx (X n) h.val w.val) : ℝ) : EReal))
      = BitVec.ofInt 32 (Int.ceil (bins (gy (X n) h.val w.val) (gx (X n) h.val w.val))) := fptosi_int _ hb.1 hb.2
  rw [e]
  exact mod_nine_int _ hb.1 hb.2

variable (hB : ∀ n (h w : Fin 512) b, 1 ≤ b → b ≤ 8 → turn (gy (X n) h.val w.val) (gx (X n) h.val w.val) b = 0 → gy (X n) h.val w.val = 0)

include hX hW hB in
theorem vote_value (n : Fin 16) (b : Fin 9) (h w : Fin 512) :
    val_main_v113 (F := Ideal) x0 x1 (ix4 n b h w) = ((vote (X n) b.val h.val w.val : ℝ) : EReal) := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113]
  rw [mag_value x0 x1 X hX hW, floor_value x0 x1 X hX hW, ceil_value x0 x1 X hX hW, word_eq, word_eq]
  rw [uitofp_ind, uitofp_ind, ← EReal.coe_mul, ← EReal.coe_mul, ← EReal.coe_add]
  refine congrArg _ ?_
  unfold vote
  rw [count_eq (hB n h w) b.isLt, add_mul]

end Cert.ReferenceIdeal.Hog

end
-- ==== Proof.RefPool.lean ====
/-
  What the reference's result holds: the mean of what a cell's 64 pixels give to each bin.
-/
module

public import proofs.«01_k».proof.Proof.RefBins

@[expose] public section

set_option maxRecDepth 16384

noncomputable section

namespace Cert.ReferenceIdeal.Hog

open Cert.ReferenceIdeal Cert.ReferenceIdeal.Gen Cert.ReferenceIdeal.Read Idealize.ShloMosaic Idealize.ShloMosaic.TcCoe Idealize.SL.Sem
open Cert.Hog

/-- A pixel of a cell, counted in the whole image. -/
theorem cell_lt (p : Fin 64) (i : Fin 8) : p.val * 8 + i.val < 512 := by omega

/-- A sum over the pixels of the image that lie in one cell is the sum over that cell's eight lines. -/
theorem cell_sum (f : ℕ → ℝ) (p : Fin 64) : ∑ h : Fin 512, ind (h.val / 8 = p.val) * f h.val = ∑ i : Fin 8, f (p.val * 8 + i.val) := by
  have e : ∀ h : Fin 512, ind (h.val / 8 = p.val) * f h.val = if h.val / 8 = p.val then f h.val else 0 := by
    intro h; unfold ind; split_ifs <;> simp
  simp only [e]
  rw [← Finset.sum_filter]
  refine Finset.sum_filter_eq_sum_of_fiber _ (fun i : Fin 8 => (⟨p.val * 8 + i.val, cell_lt p i⟩ : Fin 512)) ?_ ?_ (fun h => f h.val)
  · intro i j hij
    have := congrArg Fin.val hij
    exact Fin.ext (by simpa using this)
  · intro h
    constructor
    · intro hh
      exact ⟨⟨h.val % 8, by omega⟩, Fin.ext (by show p.val * 8 + h.val % 8 = h.val; omega)⟩
    · rintro ⟨i, rfl⟩
      show (p.val * 8 + i.val) / 8 = p.val
      omega

theorem hog_cells (Y : Fin 512 → Fin 512 → ℝ) (b : ℕ) (p q : Fin 64) :
    hog Y b p.val q.val = (∑ i : Fin 8, ∑ j : Fin 8, vote Y b (p.val * 8 + i.val) (q.val * 8 + j.val)) * (1 / 64) := by
  unfold hog
  refine congrArg (· * (1 / 64 : ℝ)) ?_
  rw [← cell_sum (fun h => ∑ j : Fin 8, vote Y b h (q.val * 8 + j.val)) p]
  refine Finset.sum_congr rfl fun h _ => ?_
  rw [← cell_sum (fun w => vote Y b h.val w) q, Finset.mul_sum]
  exact Finset.sum_congr rfl fun w _ => mul_assoc ..

/-- The host's sum over the two lines-within-a-cell axes. -/
theorem reduce_cells (v : S16x9x64x8x64x8.Idx → EReal) (init : EReal) (n : Fin 16) (b : Fin 9) (p q : Fin 64) :
    Ideal.hostReduceAdd reducesTo_S16x9x64x8x64x8_S16x9x64x64_d3_5 v init (ix4 n b p q)
      = init + ∑ i : Fin 8, ∑ j : Fin 8, v (ix6 n b p i q j) := by
  unfold Ideal.hostReduceAdd
  refine congrArg (init + ·) ?_
  refine (Finset.sum_filter_eq_sum_of_fiber _ (fun k : Fin 8 × Fin 8 => (ix6 n b p k.1 q k.2 : S16x9x64x8x64x8.Idx)) ?_ ?_ v).trans ?_
  · exact fun _ _ e => Prod.ext (congrFun e 3) (congrFun e 5)
  · intro i
    constructor
    · intro e
      have h0 : (i 0).val = n.val := congrArg Fin.val (congrFun e 0)
      have h1 : (i 1).val = b.val := congrArg Fin.val (congrFun e 1)
      have h2 : (i 2).val = p.val := congrArg Fin.val (congrFun e 2)
      have h3 : (i 4).val = q.val := congrArg Fin.val (congrFun e 3)
      refine ⟨(i 3, i 5), ?_⟩
      funext a
      apply Fin.ext
      match a with
      | ⟨0, _⟩ => exact h0.symm
      | ⟨1, _⟩ => exact h1.symm
      | ⟨2, _⟩ => exact h2.symm
      | ⟨3, _⟩ => rfl
      | ⟨4, _⟩ => exact h3.symm
      | ⟨5, _⟩ => rfl
    · rintro ⟨k, rfl⟩
      funext a
      apply Fin.ext
      match a with
      | ⟨0, _⟩ => rfl
      | ⟨1, _⟩ => rfl
      | ⟨2, _⟩ => rfl
      | ⟨3, _⟩ => rfl
  · simp only [Fintype.sum_prod_type]

/-- The literal 64. -/
theorem sixty_four : Ideal.ofBits .f32 1115684864#32 = ((64 : ℝ) : EReal) := by
  simp [Ideal.ofBits, Ideal.ieee, -EReal.coe_mul]; norm_num

variable (x0 : Vec Ideal S16x1x512x512 .f32) (x1 : Vec Ideal S2x1x3x3 .f32) (X : Fin 16 → Fin 512 → Fin 512 → ℝ)
variable (hX : ∀ n h w, x0 (ix4 n 0 h w) = ((X n h w : ℝ) : EReal))
variable (hW : ∀ o i j, x1 (ix4 o 0 i j) = ((sobel o i j : ℝ) : EReal))

variable (hB : ∀ n (h w : Fin 512) b, 1 ≤ b → b ≤ 8 → turn (gy (X n) h.val w.val) (gx (X n) h.val w.val) b = 0 → gy (X n) h.val w.val = 0)

include hX hW hB in
theorem split_value (n : Fin 16) (b : Fin 9) (p q : Fin 64) (i j : Fin 8) :
    val_main_v114 (F := Ideal) x0 x1 (ix6 n b p i q j) = ((vote (X n) b.val (p.val * 8 + i.val) (q.val * 8 + j.val) : ℝ) : EReal) := by
  pointwise [val_main_v114]
  exact vote_value x0 x1 X hX hW hB n b ⟨p.val * 8 + i.val, cell_lt p i⟩ ⟨q.val * 8 + j.val, cell_lt q j⟩

include hX hW hB in
/-- The reference's result at an index. -/
theorem hog_value (n : Fin 16) (b : Fin 9) (p q : Fin 64) :
    val_main_v117 (F := Ideal) x0 x1 (ix4 n b p q) = ((hog (X n) b.val p.val q.val : ℝ) : EReal) := by
  pointwise [val_main_v115, val_main_v116, val_main_cst_6, val_main_cst_7, val_main_v117]
  refine (congrArg (Ideal.div · _) (reduce_cells (val_main_v114 (F := Ideal) x0 x1) 0 n b p q)).trans ?_
  simp only [split_value x0 x1 X hX hW hB, sum_coe]
  rw [sixty_four, Ideal.div_coe (by norm_num), zero_add, ← EReal.coe_mul, hog_cells]

end Cert.ReferenceIdeal.Hog

end
-- ==== Proof.Gradient.lean ====
/-
  What one grid point computes first: the two differences of its image, their length, the boundary mask, and the
  cosines of the bin width, each at a pixel.
-/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Hog

open Cert.KernelIdeal Cert.KernelIdeal.Gen Idealize.ShloMosaic Idealize.ShloMosaic.TcCoe Idealize.SL.Sem
open Cert.Hog

open Classical in
/-- A proposition as a mask's bit. -/
def bit (p : Prop) : BitVec 1 := if p then 1#1 else 0#1

theorem bit_decide (p : Prop) [Decidable p] : BitVec.ofBool (decide p) = bit p := by
  unfold bit; by_cases hp : p <;> simp [hp]

theorem xori_bit (p q : Prop) : IntOp.xori (bit p) (bit q) = bit (¬(p ↔ q)) := by
  unfold bit IntOp.xori; by_cases hp : p <;> by_cases hq : q <;> simp [hp, hq]

theorem ori_bit (p q : Prop) : IntOp.ori (bit p) (bit q) = bit (p ∨ q) := by
  unfold bit IntOp.ori; by_cases hp : p <;> by_cases hq : q <;> simp [hp, hq]

theorem andi_not_bit (p q : Prop) : IntOp.andi (bit p) (IntOp.xori (bit q) 1#1) = bit (p ∧ ¬ q) := by
  unfold bit IntOp.andi IntOp.xori; by_cases hp : p <;> by_cases hq : q <;> simp [hp, hq]

/-- A number kept where the bit is set. -/
theorem select_bit (p : Prop) (r : ℝ) : Scalar.select (bit p) ((r : ℝ) : EReal) 0 = ((ind p * r : ℝ) : EReal) := by
  unfold bit ind Scalar.select; by_cases hp : p <;> simp [hp]

/-- The literal two. -/
theorem two_coe : Ideal.ofBits .f32 1073741824#32 = ((2 : ℝ) : EReal) := by
  simp [Ideal.ofBits, Ideal.ieee, -EReal.coe_mul]; norm_num

/-- The literal one sixty-fourth. -/
theorem sixtyfourth_coe : Ideal.ofBits .f32 1015021568#32 = ((1 / 64 : ℝ) : EReal) := by
  simp [Ideal.ofBits, Ideal.ieee, -EReal.coe_mul]; norm_num

/-- The bin width by its name. -/
theorem pi_nine : (Named.named κ "pi_9" (1051900098#32 : BitVec (FTy.f32).bits) : Ideal .f32) = ((step : ℝ) : EReal) :=
  IdealRules.named_const.ideal_named_scalar _ _ _ _ rfl

section

variable (x0 : Vec Ideal S1x1x512x512 .f32) (x1 : Vec Ideal S1024x512 .f32) (x2 : Vec Ideal S64x512 .f32) (x3 : Vec Ideal S512x64 .f32)
variable (X : Fin 512 → Fin 512 → ℝ)
variable (h0 : ∀ h w : Fin 512, x0 (ix4 0 0 h w) = ((X h w : ℝ) : EReal))
variable (hu : ∀ h k : Fin 512, x1 (ix2 ⟨h.val, up_lt h⟩ k)
  = ((ind (k.val + 1 = h.val) + 2 * ind (k.val + 1 = h.val + 1) + ind (k.val + 1 = h.val + 2) : ℝ) : EReal))
variable (hl : ∀ h k : Fin 512, x1 (ix2 ⟨512 + h.val, down_lt h⟩ k)
  = ((ind (k.val + 1 = h.val) - ind (k.val + 1 = h.val + 2) : ℝ) : EReal))

include h0 hu in
/-- The upper half of the product with `T` smooths a column. -/
theorem smooth_sum (h w : Fin 512) :
    ∑ k : Fin 512, x1 (ix2 ⟨h.val, up_lt h⟩ k) * x0 (ix4 0 0 k w)
      = ((pad (X · w) h.val + 2 * pad (X · w) (h.val + 1) + pad (X · w) (h.val + 2) : ℝ) : EReal) := by
  simp only [h0, hu, ← EReal.coe_mul]
  rw [sum_coe, ← pad_sum, ← pad_sum, ← pad_sum, Finset.mul_sum, ← Finset.sum_add_distrib, ← Finset.sum_add_distrib]
  congr 1
  exact Finset.sum_congr rfl fun k _ => by ring

include h0 hl in
/-- The lower half takes a column's differences. -/
theorem diff_sum (h w : Fin 512) :
    ∑ k : Fin 512, x1 (ix2 ⟨512 + h.val, down_lt h⟩ k) * x0 (ix4 0 0 k w)
      = ((pad (X · w) h.val - pad (X · w) (h.val + 2) : ℝ) : EReal) := by
  simp only [h0, hl, ← EReal.coe_mul]
  rw [sum_coe, ← pad_sum, ← pad_sum, ← Finset.sum_sub_distrib]
  congr 1
  exact Finset.sum_congr rfl fun k _ => by ring

/-- A line of reals shifted right by one, a zero entering. -/
theorem left_coe (f : Fin 512 → ℝ) (w : Fin 512) :
    (if h : w.val < 1 then (0 : EReal) else ((f ⟨w.val - 1, by omega⟩ : ℝ) : EReal)) = ((pad f w.val : ℝ) : EReal) := by
  rw [← pad_left]; split_ifs <;> rfl

/-- A line of reals shifted left by one, a zero entering. -/
theorem right_coe (f : Fin 512 → ℝ) (w : Fin 512) :
    (if h : w.val < 511 then ((f ⟨1 + w.val, by omega⟩ : ℝ) : EReal) else (0 : EReal)) = ((pad f (w.val + 2) : ℝ) : EReal) := by
  rw [← pad_right]; split_ifs <;> rfl

include h0 hu in
/-- The horizontal difference. -/
theorem pay10 (h w : Fin 512) :
    k0_pay10 (View.ld x0 r0_0) (View.ld x1 r0_1) (ix2 h w) = ((gy X h.val w.val : ℝ) : EReal) := by
  pointwise [k0_pay10, k0_pay5, k0_pay6, k0_pay9]
  show (if _ : w.val < 1 then (0 : EReal) else ∑ k : Fin 512, x1 (ix2 ⟨h.val, up_lt h⟩ k) * x0 (ix4 0 0 k ⟨w.val - 1, by omega⟩))
    - (if _ : w.val < 511 then ∑ k : Fin 512, x1 (ix2 ⟨h.val, up_lt h⟩ k) * x0 (ix4 0 0 k ⟨1 + w.val, by omega⟩) else (0 : EReal)) = _
  simp only [smooth_sum x0 x1 X h0 hu]
  rw [left_coe (fun w => pad (X · w) h.val + 2 * pad (X · w) (h.val + 1) + pad (X · w) (h.val + 2)) w,
    right_coe (fun w => pad (X · w) h.val + 2 * pad (X · w) (h.val + 1) + pad (X · w) (h.val + 2)) w, ← EReal.coe_sub,
    pad_smooth, pad_smooth]
  unfold gy pix
  congr 1; ring

include h0 hl in
/-- The vertical difference. -/
theorem pay11 (h w : Fin 512) :
    k0_pay11 (View.ld x0 r0_0) (View.ld x1 r0_1) (ix2 h w) = ((gx X h.val w.val : ℝ) : EReal) := by
  pointwise [k0_pay11, k0_pay5, k0_pay6, k0_pay9]
  show (if _ : w.val < 1 then (0 : EReal) else ∑ k : Fin 512, x1 (ix2 ⟨512 + h.val, down_lt h⟩ k) * x0 (ix4 0 0 k ⟨w.val - 1, by omega⟩))
    + Ideal.ofBits .f32 1073741824#32 * ∑ k : Fin 512, x1 (ix2 ⟨512 + h.val, down_lt h⟩ k) * x0 (ix4 0 0 k w)
    + (if _ : w.val < 511 then ∑ k : Fin 512, x1 (ix2 ⟨512 + h.val, down_lt h⟩ k) * x0 (ix4 0 0 k ⟨1 + w.val, by omega⟩) else (0 : EReal)) = _
  simp only [diff_sum x0 x1 X h0 hl]
  rw [left_coe (fun w => pad (X · w) h.val - pad (X · w) (h.val + 2)) w,
    right_coe (fun w => pad (X · w) h.val - pad (X · w) (h.val + 2)) w,
    pad_mid (fun w => pad (X · w) h.val - pad (X · w) (h.val + 2)) w, two_coe, ← EReal.coe_mul, ← EReal.coe_add, ← EReal.coe_add,
    pad_diff, pad_diff, pad_diff]
  unfold gx pix
  congr 1; ring

include h0 hu hl in
/-- The length of the pair. -/
theorem pay12 (h w : Fin 512) :
    k0_pay12 (View.ld x0 r0_0) (View.ld x1 r0_1) (ix2 h w) = ((mag (gy X h.val w.val) (gx X h.val w.val) : ℝ) : EReal) := by
  pointwise [k0_pay12]
  rw [pay10 x0 x1 X h0 hu, pay11 x0 x1 X h0 hl, mag_coe]

include h0 hu in
/-- The boundary mask. -/
theorem pay14 (h w : Fin 512) :
    k0_pay14 (View.ld x0 r0_0) (View.ld x1 r0_1) (ix2 h w) = bit (gy X h.val w.val = 0) := by
  pointwise [k0_pay14]
  rw [pay10 x0 x1 X h0 hu, bit_decide]
  congr 1
  simp

end

theorem pay13 (h w : Fin 512) : k0_pay13 (F := Ideal) (ix2 h w) = (0 : EReal) := by
  pointwise [k0_pay13]

theorem pay15 : k0_pay15 (F := Ideal) = ((2 * Real.cos step : ℝ) : EReal) := by
  pointwise [k0_pay15]
  rw [two_coe, EReal.coe_mul]
  exact congrArg (((2 : ℝ) : EReal) * Ideal.cos ·) pi_nine

theorem pay16 (h w : Fin 512) : k0_pay16 (F := Ideal) (ix2 h w) = ((Real.cos step : ℝ) : EReal) := by
  pointwise [k0_pay16]
  exact congrArg Ideal.cos pi_nine

end Cert.KernelIdeal.Hog

end
-- ==== Proof.Masks.lean ====
/-
  The turned components, their sign changes, and the masked lengths summed over each band of eight rows: one lemma a
  value of the kernel's body, over any vectors that hold the differences, their length and the cosines.
-/
module

public import proofs.«01_k».proof.Proof.Gradient

@[expose] public section

set_option maxRecDepth 16384

noncomputable section

namespace Cert.KernelIdeal.Hog

open Cert.KernelIdeal Cert.KernelIdeal.Gen Idealize.ShloMosaic Idealize.ShloMosaic.TcCoe Idealize.SL.Sem
open Cert.Hog

/-- The next turned component from the last two: the angle-addition recurrence. -/
theorem turn_next (y x : ℝ) (b : ℕ) : 2 * Real.cos step * turn y x (b + 1) - turn y x b = turn y x (b + 2) := by
  unfold turn
  have e1 : ((b + 2 : ℕ) : ℝ) * step = ((b + 1 : ℕ) : ℝ) * step + step := by push_cast; ring
  have e2 : (b : ℝ) * step = ((b + 1 : ℕ) : ℝ) * step - step := by push_cast; ring
  rw [e1, e2, Real.cos_add, Real.cos_sub, Real.sin_add, Real.sin_sub]
  ring

theorem turn_zero (y x : ℝ) : turn y x 0 = y := by unfold turn; simp

theorem turn_nine (y x : ℝ) : turn y x 9 = 0 - y := by
  unfold turn
  rw [show ((9 : ℕ) : ℝ) * step = Real.pi by push_cast; exact nine_step]
  simp

/-- The recurrence among the extended reals. -/
theorem turn_next_coe (y x : ℝ) (b : ℕ) :
    ((2 * Real.cos step : ℝ) : EReal) * ((turn y x (b + 1) : ℝ) : EReal) - ((turn y x b : ℝ) : EReal) = ((turn y x (b + 2) : ℝ) : EReal) := by
  rw [← EReal.coe_mul, ← EReal.coe_sub, turn_next]

/-- A sign test's bit. -/
theorem ge_bit (y x : ℝ) (b : ℕ) : BitVec.ofBool (decide ((0 : EReal) ≤ ((turn y x b : ℝ) : EReal))) = bit (ge y x b) := by
  rw [bit_decide]
  congr 1
  exact propext (by simp [ge])

/-- The masked lengths of a column summed over a band of eight rows. -/
def band (mg : Fin 512 → Fin 512 → ℝ) (M : Fin 512 → Fin 512 → Prop) (p : Fin 64) (w : Fin 512) : ℝ :=
  ∑ k : Fin 512, ind (k.val / 8 = p.val) * (ind (M k w) * mg k w)

section

variable {v5 : FVec Ideal S64x512 .f32} {v17 v25 v31 v32 v38 v78 v86 : FVec Ideal S512x512 .f32} {v34 v80 : IVec S512x512 1} {v36 : Ideal .f32}
variable {y x mg : Fin 512 → Fin 512 → ℝ}
variable (h5 : ∀ (p : Fin 64) (k : Fin 512), v5 (ix2 p k) = ((ind (k.val / 8 = p.val) : ℝ) : EReal))
variable (h17 : ∀ h w : Fin 512, v17 (ix2 h w) = ((y h w : ℝ) : EReal))
variable (h25 : ∀ h w : Fin 512, v25 (ix2 h w) = ((x h w : ℝ) : EReal))
variable (h31 : ∀ h w : Fin 512, v31 (ix2 h w) = ((mg h w : ℝ) : EReal))
variable (h32 : ∀ h w : Fin 512, v32 (ix2 h w) = (0 : EReal))
variable (h34 : ∀ h w : Fin 512, v34 (ix2 h w) = bit (y h w = 0))
variable (h36 : v36 = ((2 * Real.cos step : ℝ) : EReal))
variable (h38 : ∀ h w : Fin 512, v38 (ix2 h w) = ((Real.cos step : ℝ) : EReal))
variable (h78 : ∀ h w : Fin 512, v78 (ix2 h w) = ((turn (y h w) (x h w) 5 : ℝ) : EReal))
variable (h80 : ∀ h w : Fin 512, v80 (ix2 h w) = bit (ge (y h w) (x h w) 5))
variable (h86 : ∀ h w : Fin 512, v86 (ix2 h w) = ((turn (y h w) (x h w) 6 : ℝ) : EReal))

include h5 h31 h32 in
/-- A matrix product with the row pooling matrix sums each band. -/
theorem band_sum {M : Fin 512 → Fin 512 → Prop} {v : Fin 512 → BitVec 1} (p : Fin 64) (w : Fin 512) (hv : ∀ k, v k = bit (M k w)) :
    ∑ k : Fin 512, v5 (ix2 p k) * Scalar.select (v k) (v31 (ix2 k w)) (v32 (ix2 k w)) = ((band mg M p w : ℝ) : EReal) := by
  unfold band
  rw [← sum_coe]
  refine Finset.sum_congr rfl fun k _ => ?_
  rw [h5, h31, h32, hv, select_bit, ← EReal.coe_mul]

/-! ## The turned components -/

include h17 h25 h38 in
theorem pay17 (h w : Fin 512) : k0_pay17 v17 v25 v38 (ix2 h w) = ((turn (y h w) (x h w) 1 : ℝ) : EReal) := by
  pointwise [k0_pay17]
  rw [h17, h25, h38]
  refine (congrArg (fun z => _ - Ideal.sin z * _) pi_nine).trans ?_
  rw [Ideal.sin_coe, ← EReal.coe_mul, ← EReal.coe_mul, ← EReal.coe_sub]
  unfold turn
  simp

include h17 h25 h36 h38 in
theorem pay20 (h w : Fin 512) : k0_pay20 v17 v25 v36 v38 (ix2 h w) = ((turn (y h w) (x h w) 2 : ℝ) : EReal) := by
  pointwise [k0_pay20]
  rw [pay17 h17 h25 h38, h36, h17]
  have e := turn_next_coe (y h w) (x h w) 0
  rw [turn_zero] at e
  exact e

include h17 h25 h36 h38 in
theorem pay23 (h w : Fin 512) : k0_pay23 v17 v25 v36 v38 (ix2 h w) = ((turn (y h w) (x h w) 3 : ℝ) : EReal) := by
  pointwise [k0_pay23]
  rw [pay20 h17 h25 h36 h38, pay17 h17 h25 h38, h36]
  exact turn_next_coe _ _ 1

include h17 h25 h36 h38 in
theorem pay26 (h w : Fin 512) : k0_pay26 v17 v25 v36 v38 (ix2 h w) = ((turn (y h w) (x h w) 4 : ℝ) : EReal) := by
  pointwise [k0_pay26]
  rw [pay23 h17 h25 h36 h38, pay20 h17 h25 h36 h38, h36]
  exact turn_next_coe _ _ 2

include h17 h25 h36 h38 in
theorem pay29 (h w : Fin 512) : k0_pay29 v17 v25 v36 v38 (ix2 h w) = ((turn (y h w) (x h w) 5 : ℝ) : EReal) := by
  pointwise [k0_pay29]
  rw [pay26 h17 h25 h36 h38, pay23 h17 h25 h36 h38, h36]
  exact turn_next_coe _ _ 3

include h17 h25 h36 h38 in
theorem pay32 (h w : Fin 512) : k0_pay32 v17 v25 v36 v38 (ix2 h w) = ((turn (y h w) (x h w) 6 : ℝ) : EReal) := by
  pointwise [k0_pay32]
  rw [pay29 h17 h25 h36 h38, pay26 h17 h25 h36 h38, h36]
  exact turn_next_coe _ _ 4

include h36 h78 h86 in
theorem pay35 (h w : Fin 512) : k0_pay35 v36 v78 v86 (ix2 h w) = ((turn (y h w) (x h w) 7 : ℝ) : EReal) := by
  pointwise [k0_pay35]
  rw [h78, h86, h36]
  exact turn_next_coe _ _ 5

/-! ## Their signs -/

include h17 in
theorem sign0 (h w : Fin 512) : BitVec.ofBool (decide ((0 : EReal) ≤ v17 (ix2 h w))) = bit (ge (y h w) (x h w) 0) := by
  rw [h17, ← ge_bit, turn_zero]

include h17 h25 h38 in
theorem pay18 (h w : Fin 512) : k0_pay18 v17 v25 v38 (ix2 h w) = bit (ge (y h w) (x h w) 1) := by
  pointwise [k0_pay18]
  rw [pay17 h17 h25 h38, ge_bit]

include h17 h25 h36 h38 in
theorem pay21 (h w : Fin 512) : k0_pay21 v17 v25 v36 v38 (ix2 h w) = bit (ge (y h w) (x h w) 2) := by
  pointwise [k0_pay21]
  rw [pay20 h17 h25 h36 h38, ge_bit]

include h17 h25 h36 h38 in
theorem pay24 (h w : Fin 512) : k0_pay24 v17 v25 v36 v38 (ix2 h w) = bit (ge (y h w) (x h w) 3) := by
  pointwise [k0_pay24]
  rw [pay23 h17 h25 h36 h38, ge_bit]

include h17 h25 h36 h38 in
theorem pay27 (h w : Fin 512) : k0_pay27 v17 v25 v36 v38 (ix2 h w) = bit (ge (y h w) (x h w) 4) := by
  pointwise [k0_pay27]
  rw [pay26 h17 h25 h36 h38, ge_bit]

include h17 h25 h36 h38 in
theorem pay30 (h w : Fin 512) : k0_pay30 v17 v25 v36 v38 (ix2 h w) = bit (ge (y h w) (x h w) 5) := by
  pointwise [k0_pay30]
  rw [pay29 h17 h25 h36 h38, ge_bit]

include h86 in
theorem pay33 (h w : Fin 512) : k0_pay33 v86 (ix2 h w) = bit (ge (y h w) (x h w) 6) := by
  pointwise [k0_pay33]
  rw [h86, ge_bit]

include h36 h78 h86 in
theorem pay36 (h w : Fin 512) : k0_pay36 v36 v78 v86 (ix2 h w) = bit (ge (y h w) (x h w) 7) := by
  pointwise [k0_pay36]
  rw [pay35 h36 h78 h86, ge_bit]

include h36 h78 h86 in
theorem pay38 (h w : Fin 512) : k0_pay38 v36 v78 v86 (ix2 h w) = bit (ge (y h w) (x h w) 8) := by
  pointwise [k0_pay38]
  rw [pay35 h36 h78 h86, h36, h86, turn_next_coe _ _ 6, ge_bit]

include h17 in
theorem sign9 (h w : Fin 512) : BitVec.ofBool (decide ((0 : EReal) ≤ 0 - v17 (ix2 h w))) = bit (ge (y h w) (x h w) 9) := by
  rw [h17, ← ge_bit, turn_nine, EReal.coe_sub, EReal.coe_zero]

/-! ## The bands -/

/-- The mask of each bin, over the image. -/
def maskAt (y x : Fin 512 → Fin 512 → ℝ) (b : ℕ) : Fin 512 → Fin 512 → Prop := fun h w => mask (y h w) (x h w) b

include h5 h17 h25 h31 h32 h34 h38 in
theorem pay19 (p : Fin 64) (w : Fin 512) : k0_pay19 v5 v17 v25 v31 v32 v34 v38 (ix2 p w) = ((band mg (maskAt y x 0) p w : ℝ) : EReal) := by
  pointwise [k0_pay19]
  refine band_sum (v := fun k => _) h5 h31 h32 p w (fun k => ?_)
  rw [sign0 (x := x) h17, pay18 h17 h25 h38, h34, xori_bit, ori_bit]
  rfl

include h5 h17 h25 h31 h32 h36 h38 in
theorem pay22 (p : Fin 64) (w : Fin 512) : k0_pay22 v5 v17 v25 v31 v32 v36 v38 (ix2 p w) = ((band mg (maskAt y x 1) p w : ℝ) : EReal) := by
  pointwise [k0_pay22]
  refine band_sum (v := fun k => _) h5 h31 h32 p w (fun k => ?_)
  rw [pay18 h17 h25 h38, pay21 h17 h25 h36 h38, xori_bit]
  rfl

include h5 h17 h25 h31 h32 h36 h38 in
theorem pay25 (p : Fin 64) (w : Fin 512) : k0_pay25 v5 v17 v25 v31 v32 v36 v38 (ix2 p w) = ((band mg (maskAt y x 2) p w : ℝ) : EReal) := by
  pointwise [k0_pay25]
  refine band_sum (v := fun k => _) h5 h31 h32 p w (fun k => ?_)
  rw [pay21 h17 h25 h36 h38, pay24 h17 h25 h36 h38, xori_bit]
  rfl

include h5 h17 h25 h31 h32 h36 h38 in
theorem pay28 (p : Fin 64) (w : Fin 512) : k0_pay28 v5 v17 v25 v31 v32 v36 v38 (ix2 p w) = ((band mg (maskAt y x 3) p w : ℝ) : EReal) := by
  pointwise [k0_pay28]
  refine band_sum (v := fun k => _) h5 h31 h32 p w (fun k => ?_)
  rw [pay24 h17 h25 h36 h38, pay27 h17 h25 h36 h38, xori_bit]
  rfl

include h5 h17 h25 h31 h32 h36 h38 in
theorem pay31 (p : Fin 64) (w : Fin 512) : k0_pay31 v5 v17 v25 v31 v32 v36 v38 (ix2 p w) = ((band mg (maskAt y x 4) p w : ℝ) : EReal) := by
  pointwise [k0_pay31]
  refine band_sum (v := fun k => _) h5 h31 h32 p w (fun k => ?_)
  rw [pay27 h17 h25 h36 h38, pay30 h17 h25 h36 h38, xori_bit]
  rfl

include h5 h31 h32 h80 h86 in
theorem pay34 (p : Fin 64) (w : Fin 512) : k0_pay34 v5 v31 v32 v80 v86 (ix2 p w) = ((band mg (maskAt y x 5) p w : ℝ) : EReal) := by
  pointwise [k0_pay34]
  refine band_sum (v := fun k => _) h5 h31 h32 p w (fun k => ?_)
  rw [h80, pay33 h86, xori_bit]
  rfl

include h5 h31 h32 h36 h78 h86 in
theorem pay37 (p : Fin 64) (w : Fin 512) : k0_pay37 v5 v31 v32 v36 v78 v86 (ix2 p w) = ((band mg (maskAt y x 6) p w : ℝ) : EReal) := by
  pointwise [k0_pay37]
  refine band_sum (v := fun k => _) h5 h31 h32 p w (fun k => ?_)
  rw [pay33 h86, pay36 h36 h78 h86, xori_bit]
  rfl

include h5 h31 h32 h36 h78 h86 in
theorem pay39 (p : Fin 64) (w : Fin 512) : k0_pay39 v5 v31 v32 v36 v78 v86 (ix2 p w) = ((band mg (maskAt y x 7) p w : ℝ) : EReal) := by
  pointwise [k0_pay39]
  refine band_sum (v := fun k => _) h5 h31 h32 p w (fun k => ?_)
  rw [pay36 h36 h78 h86, pay38 h36 h78 h86, xori_bit]
  rfl

include h5 h17 h31 h32 h34 h36 h78 h86 in
theorem pay40 (p : Fin 64) (w : Fin 512) : k0_pay40 v5 v17 v31 v32 v34 v36 v78 v86 (ix2 p w) = ((band mg (maskAt y x 8) p w : ℝ) : EReal) := by
  pointwise [k0_pay40]
  refine band_sum (v := fun k => _) h5 h31 h32 p w (fun k => ?_)
  rw [pay38 h36 h78 h86, sign9 (x := x) h17, h34, xori_bit, andi_not_bit]
  rfl

include h5 h31 h32 h34 in
theorem pay41 (p : Fin 64) (w : Fin 512) : k0_pay41 v5 v31 v32 v34 (ix2 p w) = ((band mg (fun h w => y h w = 0) p w : ℝ) : EReal) := by
  pointwise [k0_pay41]
  exact band_sum (v := fun k => _) h5 h31 h32 p w (fun k => h34 k w)

end

end Cert.KernelIdeal.Hog

end
-- ==== Proof.Block.lean ====
/-
  What one grid point leaves in its output block: bin by bin, the cells' means.
-/
module

public import proofs.«01_k».proof.Proof.Masks

@[expose] public section

set_option maxRecDepth 16384

noncomputable section

namespace Cert.KernelIdeal.Hog

open Cert.KernelIdeal Cert.KernelIdeal.Gen Idealize.ShloMosaic Idealize.ShloMosaic.TcCoe Idealize.SL.Sem
open Cert.Hog

/-- The image's differences and their length, at a pixel. -/
abbrev gyAt (X : Fin 512 → Fin 512 → ℝ) (h w : Fin 512) : ℝ := gy X h.val w.val
abbrev gxAt (X : Fin 512 → Fin 512 → ℝ) (h w : Fin 512) : ℝ := gx X h.val w.val
abbrev magAt (X : Fin 512 → Fin 512 → ℝ) (h w : Fin 512) : ℝ := mag (gyAt X h w) (gxAt X h w)

/-- The masked lengths of bin `b`, banded. -/
abbrev bandAt (X : Fin 512 → Fin 512 → ℝ) (b : ℕ) : Fin 64 → Fin 512 → ℝ := band (magAt X) (maskAt (gyAt X) (gxAt X) b)

/-- The lengths of the pixels on the boundary, banded. -/
abbrev edgeAt (X : Fin 512 → Fin 512 → ℝ) : Fin 64 → Fin 512 → ℝ := band (magAt X) (fun h w => gyAt X h w = 0)

/-- A band of votes. -/
def votes (X : Fin 512 → Fin 512 → ℝ) (b : ℕ) (p : Fin 64) (w : Fin 512) : ℝ :=
  ∑ h : Fin 512, ind (h.val / 8 = p.val) * vote X b h.val w.val

theorem votes_zero (X : Fin 512 → Fin 512 → ℝ) (p : Fin 64) (w : Fin 512) :
    bandAt X 0 p w + bandAt X 8 p w + edgeAt X p w = votes X 0 p w := by
  unfold bandAt edgeAt band votes
  rw [← Finset.sum_add_distrib, ← Finset.sum_add_distrib]
  refine Finset.sum_congr rfl fun h _ => ?_
  unfold vote Cert.Hog.count maskAt magAt gyAt gxAt
  rw [if_pos rfl]; ring

theorem votes_one (X : Fin 512 → Fin 512 → ℝ) (p : Fin 64) (w : Fin 512) :
    bandAt X 1 p w + bandAt X 0 p w - edgeAt X p w = votes X 1 p w := by
  unfold bandAt edgeAt band votes
  rw [← Finset.sum_add_distrib, ← Finset.sum_sub_distrib]
  refine Finset.sum_congr rfl fun h _ => ?_
  unfold vote Cert.Hog.count maskAt magAt gyAt gxAt
  rw [if_neg one_ne_zero, if_pos rfl]; ring

theorem votes_next (X : Fin 512 → Fin 512 → ℝ) (b : ℕ) (p : Fin 64) (w : Fin 512) :
    bandAt X (b + 2) p w + bandAt X (b + 1) p w = votes X (b + 2) p w := by
  unfold bandAt band votes
  rw [← Finset.sum_add_distrib]
  refine Finset.sum_congr rfl fun h _ => ?_
  unfold vote Cert.Hog.count maskAt magAt gyAt gxAt
  rw [if_neg (by omega), if_neg (by omega)]
  have e : b + 2 - 1 = b + 1 := rfl
  rw [e]; ring

/-- The votes of a band, summed over eight columns and divided by 64, are a cell's mean. -/
theorem cell_sum {v7 : FVec Ideal S512x64 .f32} (h7 : ∀ (k : Fin 512) (q : Fin 64), v7 (ix2 k q) = ((ind (k.val / 8 = q.val) : ℝ) : EReal))
    (X : Fin 512 → Fin 512 → ℝ) (b : ℕ) (p q : Fin 64) {a : Fin 512 → EReal} (ha : ∀ w, a w = ((votes X b p w : ℝ) : EReal)) :
    (∑ w : Fin 512, a w * v7 (ix2 w q)) * Ideal.ofBits .f32 1015021568#32 = ((hog X b p.val q.val : ℝ) : EReal) := by
  simp only [ha, h7, ← EReal.coe_mul]
  rw [sum_coe, sixtyfourth_coe, ← EReal.coe_mul]
  congr 1
  unfold hog votes
  congr 1
  rw [Finset.sum_comm]
  refine Finset.sum_congr rfl fun w _ => ?_
  rw [Finset.sum_mul]
  exact Finset.sum_congr rfl fun h _ => by ring

section

variable (x0 : Vec Ideal S1x1x512x512 .f32) (x1 : Vec Ideal S1024x512 .f32) (x2 : Vec Ideal S64x512 .f32) (x3 : Vec Ideal S512x64 .f32)
variable (X : Fin 512 → Fin 512 → ℝ)

/-- The block's inputs: an image of reals and the three matrices. -/
structure Inputs : Prop where
  h0 : ∀ h w : Fin 512, x0 (ix4 0 0 h w) = ((X h w : ℝ) : EReal)
  hu : ∀ h k : Fin 512, x1 (ix2 ⟨h.val, up_lt h⟩ k)
    = ((ind (k.val + 1 = h.val) + 2 * ind (k.val + 1 = h.val + 1) + ind (k.val + 1 = h.val + 2) : ℝ) : EReal)
  hl : ∀ h k : Fin 512, x1 (ix2 ⟨512 + h.val, down_lt h⟩ k)
    = ((ind (k.val + 1 = h.val) - ind (k.val + 1 = h.val + 2) : ℝ) : EReal)
  h2 : ∀ (p : Fin 64) (k : Fin 512), x2 (ix2 p k) = ((ind (k.val / 8 = p.val) : ℝ) : EReal)
  h3 : ∀ (k : Fin 512) (q : Fin 64), x3 (ix2 k q) = ((ind (k.val / 8 = q.val) : ℝ) : EReal)

variable {x0 x1 x2 x3 X}
variable (H : Inputs x0 x1 x2 x3 X)
include H

/-! ## The values the stores name -/

theorem pay50 (p : Fin 64) (k : Fin 512) : k0_pay50 x0 x1 x2 x3 (ix2 p k) = ((ind (k.val / 8 = p.val) : ℝ) : EReal) := by
  pointwise [k0_pay50, k0_pay7]
  exact H.h2 p k

theorem pay51 (k : Fin 512) (q : Fin 64) : k0_pay51 x0 x1 x2 x3 (ix2 k q) = ((ind (k.val / 8 = q.val) : ℝ) : EReal) := by
  pointwise [k0_pay51, k0_pay8]
  exact H.h3 k q

theorem pay52 (h w : Fin 512) : k0_pay52 x0 x1 x2 x3 (ix2 h w) = ((gyAt X h w : ℝ) : EReal) := pay10 x0 x1 X H.h0 H.hu h w

theorem pay53 (h w : Fin 512) : k0_pay53 x0 x1 x2 x3 (ix2 h w) = ((gxAt X h w : ℝ) : EReal) := pay11 x0 x1 X H.h0 H.hl h w

theorem pay54 (h w : Fin 512) : k0_pay54 x0 x1 x2 x3 (ix2 h w) = ((magAt X h w : ℝ) : EReal) := pay12 x0 x1 X H.h0 H.hu H.hl h w

theorem pay55 (h w : Fin 512) : k0_pay55 x0 x1 x2 x3 (ix2 h w) = (0 : EReal) := pay13 h w

theorem pay56 (h w : Fin 512) : k0_pay56 x0 x1 x2 x3 (ix2 h w) = bit (gyAt X h w = 0) := pay14 x0 x1 X H.h0 H.hu h w

theorem pay57 (h w : Fin 512) : k0_pay57 x0 x1 x2 x3 (ix2 h w) = ((Real.cos step : ℝ) : EReal) := pay16 h w

theorem pay62 (h w : Fin 512) : k0_pay62 x0 x1 x2 x3 (ix2 h w) = ((turn (gyAt X h w) (gxAt X h w) 5 : ℝ) : EReal) :=
  pay29 (pay52 H) (pay53 H) pay15 (pay57 H) h w

theorem pay64 (h w : Fin 512) : k0_pay64 x0 x1 x2 x3 (ix2 h w) = ((turn (gyAt X h w) (gxAt X h w) 6 : ℝ) : EReal) :=
  pay32 (pay52 H) (pay53 H) pay15 (pay57 H) h w

theorem pay58 (p : Fin 64) (w : Fin 512) : k0_pay58 x0 x1 x2 x3 (ix2 p w) = ((bandAt X 0 p w : ℝ) : EReal) :=
  pay19 (pay50 H) (pay52 H) (pay53 H) (pay54 H) (pay55 H) (pay56 H) (pay57 H) p w

theorem pay59 (p : Fin 64) (w : Fin 512) : k0_pay59 x0 x1 x2 x3 (ix2 p w) = ((bandAt X 1 p w : ℝ) : EReal) :=
  pay22 (pay50 H) (pay52 H) (pay53 H) (pay54 H) (pay55 H) pay15 (pay57 H) p w

theorem pay60 (p : Fin 64) (w : Fin 512) : k0_pay60 x0 x1 x2 x3 (ix2 p w) = ((bandAt X 2 p w : ℝ) : EReal) :=
  pay25 (pay50 H) (pay52 H) (pay53 H) (pay54 H) (pay55 H) pay15 (pay57 H) p w

theorem pay61 (p : Fin 64) (w : Fin 512) : k0_pay61 x0 x1 x2 x3 (ix2 p w) = ((bandAt X 3 p w : ℝ) : EReal) :=
  pay28 (pay50 H) (pay52 H) (pay53 H) (pay54 H) (pay55 H) pay15 (pay57 H) p w

theorem pay63 (p : Fin 64) (w : Fin 512) : k0_pay63 x0 x1 x2 x3 (ix2 p w) = ((bandAt X 4 p w : ℝ) : EReal) :=
  pay31 (pay50 H) (pay52 H) (pay53 H) (pay54 H) (pay55 H) pay15 (pay57 H) p w

theorem pay65 (p : Fin 64) (w : Fin 512) : k0_pay65 x0 x1 x2 x3 (ix2 p w) = ((bandAt X 5 p w : ℝ) : EReal) :=
  pay34 (pay50 H) (pay54 H) (pay55 H) (pay30 (pay52 H) (pay53 H) pay15 (pay57 H)) (pay64 H) p w

theorem pay66 (p : Fin 64) (w : Fin 512) : k0_pay66 x0 x1 x2 x3 (ix2 p w) = ((bandAt X 6 p w : ℝ) : EReal) :=
  pay37 (pay50 H) (pay54 H) (pay55 H) pay15 (pay62 H) (pay64 H) p w

theorem pay67 (p : Fin 64) (w : Fin 512) : k0_pay67 x0 x1 x2 x3 (ix2 p w) = ((bandAt X 7 p w : ℝ) : EReal) :=
  pay39 (pay50 H) (pay54 H) (pay55 H) pay15 (pay62 H) (pay64 H) p w

/-! ## The nine bins -/

theorem bin0 (p q : Fin 64) :
    k0_pay42 (k0_pay50 x0 x1 x2 x3) (k0_pay51 x0 x1 x2 x3) (k0_pay52 x0 x1 x2 x3) (k0_pay54 x0 x1 x2 x3) (k0_pay55 x0 x1 x2 x3) (k0_pay56 x0 x1 x2 x3) (k0_pay15 (F := Ideal)) (k0_pay58 x0 x1 x2 x3) (k0_pay62 x0 x1 x2 x3) (k0_pay64 x0 x1 x2 x3) (ix4 0 0 p q)
      = ((hog X 0 p.val q.val : ℝ) : EReal) := by
  pointwise [k0_pay42]
  refine cell_sum (pay51 H) X 0 p q (a := fun k => _) fun w => ?_
  rw [pay58 H, pay40 (pay50 H) (pay52 H) (pay54 H) (pay55 H) (pay56 H) pay15 (pay62 H) (pay64 H), pay41 (pay50 H) (pay54 H) (pay55 H) (pay56 H), ← EReal.coe_add, ← EReal.coe_add, votes_zero]

theorem bin1 (p q : Fin 64) :
    k0_pay44 (k0_pay51 x0 x1 x2 x3) (k0_pay43 (k0_pay50 x0 x1 x2 x3) (k0_pay54 x0 x1 x2 x3) (k0_pay55 x0 x1 x2 x3) (k0_pay56 x0 x1 x2 x3) (k0_pay58 x0 x1 x2 x3) (k0_pay59 x0 x1 x2 x3)) (ix4 0 0 p q)
      = ((hog X 1 p.val q.val : ℝ) : EReal) := by
  pointwise [k0_pay44, k0_pay43]
  refine cell_sum (pay51 H) X 1 p q (a := fun k => _) fun w => ?_
  rw [pay59 H, pay58 H, pay41 (pay50 H) (pay54 H) (pay55 H) (pay56 H), ← EReal.coe_add, ← EReal.coe_sub, votes_one]

theorem bin2 (p q : Fin 64) :
    k0_pay45 (k0_pay51 x0 x1 x2 x3) (k0_pay59 x0 x1 x2 x3) (k0_pay60 x0 x1 x2 x3) (ix4 0 0 p q)
      = ((hog X 2 p.val q.val : ℝ) : EReal) := by
  pointwise [k0_pay45]
  refine cell_sum (pay51 H) X 2 p q (a := fun k => _) fun w => ?_
  rw [pay60 H, pay59 H, ← EReal.coe_add, votes_next X 0]

theorem bin3 (p q : Fin 64) :
    k0_pay46 (k0_pay51 x0 x1 x2 x3) (k0_pay60 x0 x1 x2 x3) (k0_pay61 x0 x1 x2 x3) (ix4 0 0 p q)
      = ((hog X 3 p.val q.val : ℝ) : EReal) := by
  pointwise [k0_pay46]
  refine cell_sum (pay51 H) X 3 p q (a := fun k => _) fun w => ?_
  rw [pay61 H, pay60 H, ← EReal.coe_add, votes_next X 1]

theorem bin4 (p q : Fin 64) :
    k0_pay47 (k0_pay51 x0 x1 x2 x3) (k0_pay61 x0 x1 x2 x3) (k0_pay63 x0 x1 x2 x3) (ix4 0 0 p q)
      = ((hog X 4 p.val q.val : ℝ) : EReal) := by
  pointwise [k0_pay47]
  refine cell_sum (pay51 H) X 4 p q (a := fun k => _) fun w => ?_
  rw [pay63 H, pay61 H, ← EReal.coe_add, votes_next X 2]

theorem bin5 (p q : Fin 64) :
    k0_pay1 (k0_pay48 (k0_pay51 x0 x1 x2 x3) (k0_pay63 x0 x1 x2 x3) (k0_pay65 x0 x1 x2 x3)) (k0_pay49 (F := Ideal)) (ix4 0 0 p q)
      = ((hog X 5 p.val q.val : ℝ) : EReal) := by
  pointwise [k0_pay1, k0_pay48, k0_pay49]
  refine cell_sum (pay51 H) X 5 p q (a := fun k => _) fun w => ?_
  rw [pay65 H, pay63 H, ← EReal.coe_add, votes_next X 3]

theorem bin6 (p q : Fin 64) :
    k0_pay2 (k0_pay51 x0 x1 x2 x3) (k0_pay65 x0 x1 x2 x3) (k0_pay66 x0 x1 x2 x3) (ix4 0 0 p q)
      = ((hog X 6 p.val q.val : ℝ) : EReal) := by
  pointwise [k0_pay2]
  refine cell_sum (pay51 H) X 6 p q (a := fun k => _) fun w => ?_
  rw [pay66 H, pay65 H, ← EReal.coe_add, votes_next X 4]

theorem bin7 (p q : Fin 64) :
    k0_pay3 (k0_pay51 x0 x1 x2 x3) (k0_pay66 x0 x1 x2 x3) (k0_pay67 x0 x1 x2 x3) (ix4 0 0 p q)
      = ((hog X 7 p.val q.val : ℝ) : EReal) := by
  pointwise [k0_pay3]
  refine cell_sum (pay51 H) X 7 p q (a := fun k => _) fun w => ?_
  rw [pay67 H, pay66 H, ← EReal.coe_add, votes_next X 5]

theorem bin8 (p q : Fin 64) :
    k0_pay4 (k0_pay51 x0 x1 x2 x3) (k0_pay67 x0 x1 x2 x3) (k0_pay40 (k0_pay50 x0 x1 x2 x3) (k0_pay52 x0 x1 x2 x3) (k0_pay54 x0 x1 x2 x3) (k0_pay55 x0 x1 x2 x3) (k0_pay56 x0 x1 x2 x3) (k0_pay15 (F := Ideal)) (k0_pay62 x0 x1 x2 x3) (k0_pay64 x0 x1 x2 x3)) (ix4 0 0 p q)
      = ((hog X 8 p.val q.val : ℝ) : EReal) := by
  pointwise [k0_pay4]
  refine cell_sum (pay51 H) X 8 p q (a := fun k => _) fun w => ?_
  rw [pay40 (pay50 H) (pay52 H) (pay54 H) (pay55 H) (pay56 H) pay15 (pay62 H) (pay64 H), pay67 H, ← EReal.coe_add, votes_next X 6]

omit H in
/-- Two stores' rectangles lie at different bins. -/
theorem not_mem_bin {b : ℕ} {c : Fin 9} (hb : b ≠ c.val) {inb : ∀ a, (![0, b, 0, 0] : Fin 4 → ℕ) a + S1x1x64x64.size a ≤ S1x9x64x64.size a}
    (p q : Fin 64) :
    (ix4 0 c p q : S1x9x64x64.Idx) ∉ (Rect.unit (s := S1x9x64x64) ![0, b, 0, 0] S1x1x64x64.size inb).set := by
  rw [Rect.mem_set_unit]
  intro hm
  have h1 := hm 1
  have e1 : b ≤ c.val := h1.1
  have e2 : c.val < b + 1 := h1.2
  omega

omit H in
/-- A cell of a bin is a cell of the bin's rectangle. -/
theorem emb_bin {b : ℕ} {c : Fin 9} (hb : b = c.val) {inb : ∀ a, (![0, b, 0, 0] : Fin 4 → ℕ) a + S1x1x64x64.size a ≤ S1x9x64x64.size a}
    (p q : Fin 64) :
    (ix4 0 c p q : S1x9x64x64.Idx) = (Rect.unit (s := S1x9x64x64) ![0, b, 0, 0] S1x1x64x64.size inb).emb (ix4 0 0 p q : S1x1x64x64.Idx) := by
  subst hb
  funext a
  apply Fin.ext
  rw [Rect.emb_apply]
  show _ = (![0, c.val, 0, 0] : Fin 4 → ℕ) a + 1 * _
  rw [Nat.one_mul]
  fin_cases a
  · rfl
  · rfl
  · exact (Nat.zero_add _).symm
  · exact (Nat.zero_add _).symm

omit H in
/-- A store at another bin does not count; -/
theorem canon_skip {b : ℕ} {inb : ∀ a, (![0, b, 0, 0] : Fin 4 → ℕ) a + S1x1x64x64.size a ≤ S1x9x64x64.size a}
    (w : Vec Ideal S1x1x64x64 .f32) (L : List (View.Piece (Elt Ideal) S1x9x64x64 .f32)) (c : Fin 9) (p q : Fin 64) (hb : b ≠ c.val) :
    View.canon (⟨Rect.unit (s := S1x9x64x64) ![0, b, 0, 0] S1x1x64x64.size inb, w⟩ :: L) (ix4 0 c p q) = View.canon L (ix4 0 c p q) :=
  View.canon_cons_of_not_mem _ _ (not_mem_bin (inb := inb) hb p q)

omit H in
/-- the store at the bin does. -/
theorem canon_hit {b : ℕ} {inb : ∀ a, (![0, b, 0, 0] : Fin 4 → ℕ) a + S1x1x64x64.size a ≤ S1x9x64x64.size a}
    (w : Vec Ideal S1x1x64x64 .f32) (L : List (View.Piece (Elt Ideal) S1x9x64x64 .f32)) (c : Fin 9) (p q : Fin 64) (hb : b = c.val) :
    View.canon (⟨Rect.unit (s := S1x9x64x64) ![0, b, 0, 0] S1x1x64x64.size inb, w⟩ :: L) (ix4 0 c p q) = w (ix4 0 0 p q) := by
  rw [emb_bin hb (inb := inb) p q]
  exact View.canon_cons_emb _ _ _ _

omit H in
/-- Nine stores, one a bin, read at a cell of a bin. -/
theorem canon_bins (w0 w1 w2 w3 w4 w5 w6 w7 w8 : Vec Ideal S1x1x64x64 .f32) (p q : Fin 64) (r : Fin 9 → EReal)
    (e0 : w0 (ix4 0 0 p q) = r 0) (e1 : w1 (ix4 0 0 p q) = r 1) (e2 : w2 (ix4 0 0 p q) = r 2) (e3 : w3 (ix4 0 0 p q) = r 3)
    (e4 : w4 (ix4 0 0 p q) = r 4) (e5 : w5 (ix4 0 0 p q) = r 5) (e6 : w6 (ix4 0 0 p q) = r 6) (e7 : w7 (ix4 0 0 p q) = r 7)
    (e8 : w8 (ix4 0 0 p q) = r 8) (c : Fin 9) :
    View.canon (Val := Elt Ideal) (s := S1x9x64x64) (e := .f32) [⟨r0_12, w8⟩, ⟨r0_11, w7⟩, ⟨r0_10, w6⟩, ⟨r0_9, w5⟩, ⟨r0_8, w4⟩, ⟨r0_7, w3⟩, ⟨r0_6, w2⟩, ⟨r0_5, w1⟩, ⟨r0_4, w0⟩]
      (ix4 0 c p q) = r c := by
  fin_cases c
  · exact (canon_skip w8 _ 0 p q (by decide)).trans <| (canon_skip w7 _ 0 p q (by decide)).trans <| (canon_skip w6 _ 0 p q (by decide)).trans <| (canon_skip w5 _ 0 p q (by decide)).trans <| (canon_skip w4 _ 0 p q (by decide)).trans <| (canon_skip w3 _ 0 p q (by decide)).trans <| (canon_skip w2 _ 0 p q (by decide)).trans <| (canon_skip w1 _ 0 p q (by decide)).trans <| (canon_hit w0 _ 0 p q (by decide)).trans e0
  · exact (canon_skip w8 _ 1 p q (by decide)).trans <| (canon_skip w7 _ 1 p q (by decide)).trans <| (canon_skip w6 _ 1 p q (by decide)).trans <| (canon_skip w5 _ 1 p q (by decide)).trans <| (canon_skip w4 _ 1 p q (by decide)).trans <| (canon_skip w3 _ 1 p q (by decide)).trans <| (canon_skip w2 _ 1 p q (by decide)).trans <| (canon_hit w1 _ 1 p q (by decide)).trans e1
  · exact (canon_skip w8 _ 2 p q (by decide)).trans <| (canon_skip w7 _ 2 p q (by decide)).trans <| (canon_skip w6 _ 2 p q (by decide)).trans <| (canon_skip w5 _ 2 p q (by decide)).trans <| (canon_skip w4 _ 2 p q (by decide)).trans <| (canon_skip w3 _ 2 p q (by decide)).trans <| (canon_hit w2 _ 2 p q (by decide)).trans e2
  · exact (canon_skip w8 _ 3 p q (by decide)).trans <| (canon_skip w7 _ 3 p q (by decide)).trans <| (canon_skip w6 _ 3 p q (by decide)).trans <| (canon_skip w5 _ 3 p q (by decide)).trans <| (canon_skip w4 _ 3 p q (by decide)).trans <| (canon_hit w3 _ 3 p q (by decide)).trans e3
  · exact (canon_skip w8 _ 4 p q (by decide)).trans <| (canon_skip w7 _ 4 p q (by decide)).trans <| (canon_skip w6 _ 4 p q (by decide)).trans <| (canon_skip w5 _ 4 p q (by decide)).trans <| (canon_hit w4 _ 4 p q (by decide)).trans e4
  · exact (canon_skip w8 _ 5 p q (by decide)).trans <| (canon_skip w7 _ 5 p q (by decide)).trans <| (canon_skip w6 _ 5 p q (by decide)).trans <| (canon_hit w5 _ 5 p q (by decide)).trans e5
  · exact (canon_skip w8 _ 6 p q (by decide)).trans <| (canon_skip w7 _ 6 p q (by decide)).trans <| (canon_hit w6 _ 6 p q (by decide)).trans e6
  · exact (canon_skip w8 _ 7 p q (by decide)).trans <| (canon_hit w7 _ 7 p q (by decide)).trans e7
  · exact (canon_hit w8 _ 8 p q (by decide)).trans e8

/-- **One grid point's block**: bin by bin, the cells' means of its image. -/
theorem out_apply (b : Fin 9) (p q : Fin 64) : out0_4 x0 x1 x2 x3 (ix4 0 b p q) = ((hog X b.val p.val q.val : ℝ) : EReal) :=
  canon_bins _ _ _ _ _ _ _ _ _ p q (fun b => ((hog X b.val p.val q.val : ℝ) : EReal))
    (bin0 H p q) (bin1 H p q) (bin2 H p q) (bin3 H p q) (bin4 H p q) (bin5 H p q) (bin6 H p q) (bin7 H p q) (bin8 H p q) b

end

end Cert.KernelIdeal.Hog

end
-- ==== Proof.HostArrays.lean ====
/-
  The three matrices the program builds before its kernel: the stacked difference matrix `T`, the row pooling matrix
  `PT` and the column pooling matrix `P`, read at an index.
-/
module

public import proofs.«01_k».proof.Proof.Gen.KernelIdeal.Frame
public import proofs.«01_k».proof.Proof.Spec
public import Idealize.ShloMosaic.Lib.Pointwise
public import Idealize.ShloMosaic.Lib.StableHlo.ReadAt

@[expose] public section

set_option maxRecDepth 16384

noncomputable section

namespace Cert.KernelIdeal.Hog

open Cert.KernelIdeal Cert.KernelIdeal.Gen Idealize.ShloMosaic Idealize.ShloMosaic.TcCoe Idealize.SL.Sem
open Cert.Hog

variable (m : (ℓ : Loc nD τ sig) → Buf (Elt Ideal) ℓ)

/-- The word of a difference is a small word exactly when the difference is. -/
theorem sub_eq_zero_iff {a k : ℕ} (ha : a < 512) (hk : k < 512) :
    IntOp.cmpi .eq (IntOp.subi (BitVec.ofNat 32 a) (BitVec.ofNat 32 k)) 0#32 = BitVec.ofBool (decide (k = a)) := by
  unfold IntOp.cmpi IntOp.subi
  refine congrArg _ ?_
  show (_ == _) = _
  rw [Bool.eq_iff_iff, beq_iff_eq, decide_eq_true_iff, ← BitVec.toNat_inj]
  simp only [BitVec.toNat_sub, BitVec.toNat_ofNat]
  omega

theorem sub_eq_one_iff {a k : ℕ} (ha : a < 512) (hk : k < 512) :
    IntOp.cmpi .eq (IntOp.subi (BitVec.ofNat 32 a) (BitVec.ofNat 32 k)) 1#32 = BitVec.ofBool (decide (k + 1 = a)) := by
  unfold IntOp.cmpi IntOp.subi
  refine congrArg _ ?_
  show (_ == _) = _
  rw [Bool.eq_iff_iff, beq_iff_eq, decide_eq_true_iff, ← BitVec.toNat_inj]
  simp only [BitVec.toNat_sub, BitVec.toNat_ofNat]
  omega

theorem sub_eq_neg_one_iff {a k : ℕ} (ha : a < 512) (hk : k < 512) :
    IntOp.cmpi .eq (IntOp.subi (BitVec.ofNat 32 a) (BitVec.ofNat 32 k)) 4294967295#32 = BitVec.ofBool (decide (k = a + 1)) := by
  unfold IntOp.cmpi IntOp.subi
  refine congrArg _ ?_
  show (_ == _) = _
  rw [Bool.eq_iff_iff, beq_iff_eq, decide_eq_true_iff, ← BitVec.toNat_inj]
  simp only [BitVec.toNat_sub, BitVec.toNat_ofNat]
  omega

theorem abs_sub_eq_one_iff {a k : ℕ} (ha : a < 512) (hk : k < 512) :
    IntOp.cmpi .eq (IntOp.absi (IntOp.subi (BitVec.ofNat 32 a) (BitVec.ofNat 32 k))) 1#32
      = BitVec.ofBool (decide (k + 1 = a ∨ k = a + 1)) := by
  unfold IntOp.cmpi IntOp.subi IntOp.absi
  refine congrArg _ ?_
  show (_ == _) = _
  rw [Bool.eq_iff_iff, beq_iff_eq, decide_eq_true_iff, ← BitVec.toNat_inj]
  rw [BitVec.msb_eq_decide]
  simp only [BitVec.toNat_sub, BitVec.toNat_ofNat, decide_eq_true_eq]
  split_ifs with h <;> simp only [BitVec.toNat_neg, BitVec.toNat_sub, BitVec.toNat_ofNat] <;> omega

/-- A choice between one and zero is the indicator. -/
theorem select_ind (p : Prop) [Decidable p] (a : EReal) :
    Scalar.select (BitVec.ofBool (decide p)) a (0 : EReal) = ((ind p : ℝ) : EReal) * a := by
  unfold Scalar.select ind
  by_cases hp : p <;> simp [hp]

/-- The literal two. -/
theorem lit_two : Ideal.ofBits .f32 1073741824#32 = ((2 : ℝ) : EReal) := by
  simp [Ideal.ofBits, Ideal.ieee, -EReal.coe_mul]; norm_num

/-- The floor division of a small number by eight, as it prints: truncated, one less when the signs differ and a
    remainder is left. -/
theorem floor_div_eight : ∀ k : Fin 512,
    Scalar.select (IntOp.andi
        (IntOp.cmpi .ne (if BitVec.ofNat 32 k.val = 0 then 0 else if (BitVec.ofNat 32 k.val).msb = true then -1 else 1)
          (if (8#32 : BitVec 32) = 0 then 0 else if BitVec.msb 8#32 = true then -1 else (1 : BitVec 32)))
        (IntOp.cmpi .ne (IntOp.remsi ArithUnit.host (BitVec.ofNat 32 k.val) 8#32) 0#32))
      (IntOp.subi (IntOp.divsi ArithUnit.host (BitVec.ofNat 32 k.val) 8#32) 1#32)
      (IntOp.divsi ArithUnit.host (BitVec.ofNat 32 k.val) 8#32) = BitVec.ofNat 32 (k.val / 8) := by
  decide +kernel

/-- Two small words are one exactly when the numbers are. -/
theorem ofNat_eq_iff {a b : ℕ} (ha : a < 512) (hb : b < 512) :
    IntOp.cmpi .eq (BitVec.ofNat 32 a) (BitVec.ofNat 32 b) = BitVec.ofBool (decide (a = b)) := by
  unfold IntOp.cmpi
  refine congrArg _ ?_
  show (_ == _) = _
  rw [Bool.eq_iff_iff, beq_iff_eq, decide_eq_true_iff, ← BitVec.toNat_inj]
  simp only [BitVec.toNat_ofNat]
  omega

/-- The upper half of `T` smooths: 1, 2, 1 around the diagonal. -/
theorem T_upper (c : Dev nD) (h k : Fin 512) :
    (V m c main_v21 : S1024x512.Idx → EReal) (ix2 ⟨h.val, up_lt h⟩ k)
      = ((ind (k.val + 1 = h.val) + 2 * ind (k.val + 1 = h.val + 1) + ind (k.val + 1 = h.val + 2) : ℝ) : EReal) := by
  unfold V
  after_reads_at
  rw [abs_sub_eq_one_iff h.isLt k.isLt, sub_eq_zero_iff h.isLt k.isLt, select_ind, select_ind, lit_two]
  unfold ind
  generalize e1 : (k.val + 1 = h.val) = p1
  generalize e2 : (k.val = h.val) = p2
  generalize e3 : (k.val = h.val + 1) = p3
  have h13 : ¬(p1 ∧ p3) := by subst e1 e3; omega
  have h12 : ¬(p1 ∧ p2) := by subst e1 e2; omega
  have h23 : ¬(p2 ∧ p3) := by subst e2 e3; omega
  clear e1 e2 e3
  by_cases h1 : p1 <;> by_cases h2 : p2 <;> by_cases h3 : p3 <;> simp_all

/-- The lower half of `T` takes differences: the line above less the line below. -/
theorem T_lower (c : Dev nD) (h k : Fin 512) :
    (V m c main_v21 : S1024x512.Idx → EReal) (ix2 ⟨512 + h.val, down_lt h⟩ k)
      = ((ind (k.val + 1 = h.val) - ind (k.val + 1 = h.val + 2) : ℝ) : EReal) := by
  unfold V
  after_reads_at
  rw [sub_eq_one_iff h.isLt k.isLt, sub_eq_neg_one_iff h.isLt k.isLt, select_ind, select_ind]
  rw [mul_one, mul_one, ← EReal.coe_sub]

theorem PT_apply (c : Dev nD) (p : Fin 64) (k : Fin 512) :
    (V m c main_v29 : S64x512.Idx → EReal) (ix2 p k) = ((ind (k.val / 8 = p.val) : ℝ) : EReal) := by
  unfold V
  after_reads_at
  refine (congrArg (fun z => Scalar.select (IntOp.cmpi .eq z (BitVec.ofNat 32 p.val)) (1 : EReal) 0) (floor_div_eight k)).trans ?_
  rw [ofNat_eq_iff (by omega) (by omega), select_ind, mul_one]

theorem P_apply (c : Dev nD) (k : Fin 512) (q : Fin 64) :
    (V m c main_v36 : S512x64.Idx → EReal) (ix2 k q) = ((ind (k.val / 8 = q.val) : ℝ) : EReal) := by
  unfold V
  after_reads_at
  refine (congrArg (fun z => Scalar.select (IntOp.cmpi .eq z (BitVec.ofNat 32 q.val)) (1 : EReal) 0) (floor_div_eight k)).trans ?_
  rw [ofNat_eq_iff (by omega) (by omega), select_ind, mul_one]

end Cert.KernelIdeal.Hog

end
-- ==== Proof.KernelValue.lean ====
/-
  The array the kernel leaves: at every image, bin and cell, the cell's mean.
-/
module

public import proofs.«01_k».proof.Proof.Block
public import proofs.«01_k».proof.Proof.HostArrays
public import proofs.«01_k».proof.Proof.Gen.KernelIdeal.Value
public import Idealize.ShloMosaic.Lib.Pipeline.ValueKit

@[expose] public section

set_option maxRecDepth 16384

noncomputable section

namespace Cert.KernelIdeal.Hog

open Cert.KernelIdeal Cert.KernelIdeal.Gen Idealize.ShloMosaic Idealize.ShloMosaic.TcCoe Idealize.SL.Sem
open Cert.Hog

variable (m : (ℓ : Loc nD τ sig) → Buf (Elt Ideal) ℓ) (c : Dev nD) (X : Fin 16 → Fin 512 → Fin 512 → ℝ)

/-- The descriptor of a stack of images. -/
def hogs (X : Fin 16 → Fin 512 → Fin 512 → ℝ) : S16x9x64x64.Idx → EReal :=
  fun i => ((hog (X (i 0)) (i 1).val (i 2).val (i 3).val : ℝ) : EReal)

/-- The index maps: the grid point's image, and the three matrices whole. -/
theorem idx_facts : ∀ t : Fin cfg0.N,
    (win0_0.index t 0 = t.val ∧ win0_0.index t 1 = 0 ∧ win0_0.index t 2 = 0 ∧ win0_0.index t 3 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0 ∧ win0_4.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0 ∧ win0_4.index t 3 = 0))

/-- Image `t` is the block of point `t`; -/
theorem image_block (t : Fin cfg0.N) (h w : Fin 512) :
    (iblk m c 0 t : S1x1x512x512.Idx → EReal) (ix4 0 0 h w)
      = (m ((c.tc : Thread nD τ).loc main_arg0) : S16x1x512x512.Idx → EReal) (ix4 ⟨t.val, t.isLt⟩ 0 h w) := by
  have e := (idx_facts t).1
  rw [← V_main_arg0 m c]
  blk_ext [iblk, e.1, e.2.1, e.2.2.1, e.2.2.2]

theorem T_block (t : Fin cfg0.N) (a : Fin 1024) (k : Fin 512) :
    (iblk m c 1 t : S1024x512.Idx → EReal) (ix2 a k) = (V m c main_v21 : S1024x512.Idx → EReal) (ix2 a k) := by
  have e := (idx_facts t).2.1
  blk_ext [iblk, e.1, e.2]

theorem PT_block (t : Fin cfg0.N) (a : Fin 64) (k : Fin 512) :
    (iblk m c 2 t : S64x512.Idx → EReal) (ix2 a k) = (V m c main_v29 : S64x512.Idx → EReal) (ix2 a k) := by
  have e := (idx_facts t).2.2.1
  blk_ext [iblk, e.1, e.2]

theorem P_block (t : Fin cfg0.N) (a : Fin 512) (k : Fin 64) :
    (iblk m c 3 t : S512x64.Idx → EReal) (ix2 a k) = (V m c main_v36 : S512x64.Idx → EReal) (ix2 a k) := by
  have e := (idx_facts t).2.2.2.1
  blk_ext [iblk, e.1, e.2]

variable (hX : ∀ (n : Fin 16) (h w : Fin 512),
  (m ((c.tc : Thread nD τ).loc main_arg0) : S16x1x512x512.Idx → EReal) (ix4 n 0 h w) = ((X n h w : ℝ) : EReal))

include hX in
/-- Each point's inputs are an image of reals and the three matrices. -/
theorem inputs (t : Fin cfg0.N) : Inputs (iblk m c 0 t) (iblk m c 1 t) (iblk m c 2 t) (iblk m c 3 t) (X ⟨t.val, t.isLt⟩) where
  h0 h w := (image_block m c t h w).trans (hX _ h w)
  hu h k := (T_block m c t _ k).trans (T_upper m c h k)
  hl h k := (T_block m c t _ k).trans (T_lower m c h k)
  h2 p k := (PT_block m c t p k).trans (PT_apply m c p k)
  h3 k q := (P_block m c t k q).trans (P_apply m c k q)

include hX in
/-- **The kernel's array.** -/
theorem kernel_array : (dats m 0 c).arrAt 4 cfg0.N = hogs X := by
  refine (dats m 0 c).arrAt_eq_of_covers 4 _ (by decide +kernel) fun t hf y => ?_
  have e := (idx_facts t).2.2.2.2
  blk_simp
  rw [after0_4]
  revert y
  show ∀ y : S1x9x64x64.Idx, _
  intro y
  have ey : y = ix4 0 (y 1) (y 2) (y 3) := by
    funext a
    fin_cases a
    · exact Subsingleton.elim (α := Fin 1) _ _
    · rfl
    · rfl
    · rfl
  have ee : ((win0_4.blk t).view.emb y : S16x9x64x64.Idx) = ix4 ⟨t.val, t.isLt⟩ (y 1) (y 2) (y 3) := by
    have h0 : (y 0).val < 1 := (y 0).isLt
    blk_ext [e.1, e.2.1, e.2.2.1, e.2.2.2]
  rw [ee]
  refine (congrArg (out0_4 (iblk m c 0 t) (iblk m c 1 t) (iblk m c 2 t) (iblk m c 3 t)) ey).trans ?_
  exact out_apply (inputs m c X hX t) (y 1) (y 2) (y 3)

end Cert.KernelIdeal.Hog

end
-- ==== Proof.Equation.lean ====
/-
  The equation: on an image of whole multiples of one unit no gradient lies on a bin boundary other than the horizontal
  one, so the reference's array is the kernel's.
-/
module

public import proofs.«01_k».proof.Proof.RefPool
public import proofs.«01_k».proof.Proof.KernelValue

@[expose] public section

noncomputable section

namespace Cert.Hog

open Idealize.ShloMosaic

/-- The whole multiples of a unit. -/
def Whole (u r : ℝ) : Prop := ∃ p : ℤ, r = p * u

theorem Whole.add {u a b : ℝ} : Whole u a → Whole u b → Whole u (a + b)
  | ⟨p, hp⟩, ⟨q, hq⟩ => ⟨p + q, by rw [hp, hq]; push_cast; ring⟩

theorem Whole.sub {u a b : ℝ} : Whole u a → Whole u b → Whole u (a - b)
  | ⟨p, hp⟩, ⟨q, hq⟩ => ⟨p - q, by rw [hp, hq]; push_cast; ring⟩

theorem Whole.two {u a : ℝ} : Whole u a → Whole u (2 * a)
  | ⟨p, hp⟩ => ⟨2 * p, by rw [hp]; push_cast; ring⟩

theorem Whole.pad {u : ℝ} {f : Fin 512 → ℝ} (h : ∀ k, Whole u (f k)) (a : ℕ) : Whole u (Cert.Hog.pad f a) := by
  unfold Cert.Hog.pad
  split_ifs
  · exact h _
  · exact ⟨0, by simp⟩

theorem Whole.pix {u : ℝ} {X : Fin 512 → Fin 512 → ℝ} (h : ∀ i j, Whole u (X i j)) (a b : ℕ) : Whole u (Cert.Hog.pix X a b) :=
  Whole.pad (fun w => Whole.pad (fun i => h i w) a) b

theorem Whole.gy {u : ℝ} {X : Fin 512 → Fin 512 → ℝ} (h : ∀ i j, Whole u (X i j)) (a b : ℕ) : Whole u (Cert.Hog.gy X a b) :=
  (((Whole.pix h _ _).sub (Whole.pix h _ _)).add (((Whole.pix h _ _).sub (Whole.pix h _ _)).two)).add
    ((Whole.pix h _ _).sub (Whole.pix h _ _))

theorem Whole.gx {u : ℝ} {X : Fin 512 → Fin 512 → ℝ} (h : ∀ i j, Whole u (X i j)) (a b : ℕ) : Whole u (Cert.Hog.gx X a b) :=
  (((Whole.pix h _ _).add (Whole.pix h _ _).two).add (Whole.pix h _ _)).sub
    (((Whole.pix h _ _).add (Whole.pix h _ _).two).add (Whole.pix h _ _))

/-- No boundary is met, but the horizontal one. -/
theorem boundary {u : ℝ} (hu : u ≠ 0) {X : Fin 512 → Fin 512 → ℝ} (h : ∀ i j, Whole u (X i j)) (a b : ℕ) :
    ∀ k : ℕ, 1 ≤ k → k ≤ 8 → turn (gy X a b) (gx X a b) k = 0 → gy X a b = 0 :=
  boundary_of_unit hu (Whole.gy h a b) (Whole.gx h a b)

open Cert.ReferenceIdeal in
/-- The reference's array, at real pixels that are whole multiples of a unit and at the Sobel weight. -/
theorem reference_array (x0 : Vec Ideal S16x1x512x512 .f32) (x1 : Vec Ideal S2x1x3x3 .f32) (X : Fin 16 → Fin 512 → Fin 512 → ℝ)
    (hX : ∀ n h w, x0 (ix4 n 0 h w) = ((X n h w : ℝ) : EReal)) (hW : ∀ o i j, x1 (ix4 o 0 i j) = ((sobel o i j : ℝ) : EReal))
    {u : ℝ} (hu : u ≠ 0) (hU : ∀ n h w, Whole u (X n h w)) :
    Read.val_main_v117 (F := Ideal) x0 x1 = Cert.KernelIdeal.Hog.hogs X := by
  funext i
  have e : i = ix4 (i 0) (i 1) (i 2) (i 3) := by
    funext a
    match a with
    | ⟨0, _⟩ => rfl
    | ⟨1, _⟩ => rfl
    | ⟨2, _⟩ => rfl
    | ⟨3, _⟩ => rfl
  rw [e]
  exact Cert.ReferenceIdeal.Hog.hog_value x0 x1 X hX hW (fun n h w => boundary hu (hU n) h.val w.val) (i 0) (i 1) (i 2) (i 3)

end Cert.Hog

end
-- ==== Proof.RefRun.lean ====
/-
  The reference's run: it ends with its result array at the value read off the program, its two arguments unchanged and
  every counter at zero.
-/
module

public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.ReferenceIdeal.Hog

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The run, its result named. -/
theorem run_named : θ_run (defs (F := Ideal)) (onTc (τ := τ) (main (F := Ideal))) ⟨m, fun _ => 0, ρ⟩ fun r => ∀ c : Dev nD,
    r.2.mem ((c.tc : Thread nD τ).loc main_v117)
      = Read.val_main_v117 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (Read.val_main_v117_eq (launchContents m c)), (h c).2.1, (h c).2.2⟩)
    (Value.run (F := Ideal) m ρ)

/-- The run's frame; the counters because the program has none. -/
theorem frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => ⟨(h c).2.1, (h c).2.2⟩, sem_eq_zero_of_no_sems (by decide) r.2⟩) (run_named m ρ)

end Cert.ReferenceIdeal.Hog

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_float_image_sobel_weight
public import proofs.«01_k».proof.Proof.Gen.KernelIdeal.Value
public import proofs.«01_k».proof.Proof.Gen.ReferenceIdeal.Run
public import proofs.«01_k».proof.Proof.Gen.ReferenceIdeal.Read
public import proofs.«01_k».proof.Proof.Precond
public import proofs.«01_k».proof.Proof.Equation
public import proofs.«01_k».proof.Proof.RefRun
public import Idealize.ShloMosaic.Adequacy
public import Idealize.ShloMosaic.Init

@[expose] public section

noncomputable section

namespace Cert.Proof

open Idealize.ShloMosaic Idealize.SL.Sem Cert.Kernel

open Cert.Hog Cert.Pre_float_image_sobel_weight.Hog

/-- The arrays agree: both are the descriptor of the image, bin by bin. -/
theorem algebraic : Cert.algebraic_KernelIdeal_ReferenceIdeal_pre_float_image_sobel_weight := by
  intro m g m' g' hpre hagree
  have key : ∀ c : Dev Cert.KernelIdeal.nD, Cert.ReferenceIdeal.Read.val_main_v117 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = (Cert.KernelIdeal.Gen.dats m 0 c).arrAt 4 Cert.KernelIdeal.cfg0.N := by
    intro c
    obtain ⟨hx, hW⟩ := parts _ _ (hpre c)
    choose p hp using hx
    rw [(hagree c).1, (hagree c).2, Cert.KernelIdeal.Hog.kernel_array m c (fun n h w => p n h w * unit) hp]
    exact reference_array _ _ (fun n h w => p n h w * unit) hp hW unit_ne fun n h w => ⟨p n h w, rfl⟩
  refine ⟨fun c => (Cert.KernelIdeal.Gen.dats m 0 c).arrAt 4 Cert.KernelIdeal.cfg0.N, Cert.KernelIdeal.Value.run_blocks m g, ?_⟩
  exact (θ_run _ _ _).mono (fun r h c => ⟨(h c).1.trans (key c), (h c).2.1, (h c).2.2⟩) (Cert.ReferenceIdeal.Hog.run_named m' g')

theorem claim : Cert.Claim :=
  ⟨Cert.Kernel.Gen.facts, Cert.KernelIdeal.Gen.facts, Cert.ReferenceIdeal.Gen.facts, Cert.Pre_float_image_sobel_weight.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Hog.frame m ρ,
    fun m ρ _ => Cert.ReferenceIdeal.Hog.frame m ρ,
    IdealRules.named_const.statement Cert.KernelIdeal.κ "pi_9" .f32 0x3EB2B8C2#32 (((Real.pi * 9⁻¹ : ℝ) : EReal)) rfl,
    algebraic⟩

end Cert.Proof

end
